-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_25" .f32 0x3D23D70A#32 ((25⁻¹ : ℝ) : EReal)

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ preserves_Kernel_KernelIdeal
    ∧ algebraic_KernelIdeal_ReferenceIdeal_pre_finite_gates (hKernelIdeal := hKernelIdeal) (hReferenceIdeal := hReferenceIdeal) (hPre_finite_gates := hPre_finite_gates)
-- ==== Pre_finite_gates.lean ====
abbrev S4x2048x256 : Shape := ⟨3, ![4, 2048, 256]⟩
abbrev S8x2048 : Shape := ⟨2, ![8, 2048]⟩
abbrev S8x1024x2048 : Shape := ⟨3, ![8, 1024, 2048]⟩
abbrev S8x1024 : Shape := ⟨2, ![8, 1024]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S4x2048x256 .f32) (main_arg1 : FVec F S8x2048 .f32) (main_arg2 : FVec F S8x1024x2048 .f32) (main_arg3 : FVec F S8x1024 .f32) (main_arg4 : FVec F S8x2048 .f32) (main_arg5 : FVec F S8x1024x2048 .f32) (main_arg6 : FVec F S8x1024 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S8x2048 .f32 := Host.absf main_arg4
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Kernel.lean ====
abbrev S4x2048x256 : Shape := ⟨3, ![4, 2048, 256]⟩
abbrev S8x2048 : Shape := ⟨2, ![8, 2048]⟩
abbrev S8x1024x2048 : Shape := ⟨3, ![8, 1024, 2048]⟩
abbrev S8x1024 : Shape := ⟨2, ![8, 1024]⟩
abbrev S1024x8 : Shape := ⟨2, ![1024, 8]⟩
abbrev S4x1024x256 : Shape := ⟨3, ![4, 1024, 256]⟩
abbrev S8x256 : Shape := ⟨2, ![8, 256]⟩
abbrev S1x512x2048 : Shape := ⟨3, ![1, 512, 2048]⟩
abbrev S2x2048x1024 : Shape := ⟨3, ![2, 2048, 1024]⟩
abbrev S2x8x1024 : Shape := ⟨3, ![2, 8, 1024]⟩
abbrev S1x2048x256 : Shape := ⟨3, ![1, 2048, 256]⟩
abbrev S2048x256 : Shape := ⟨2, ![2048, 256]⟩
abbrev S2032x256 : Shape := ⟨2, ![2032, 256]⟩
abbrev S2024x256 : Shape := ⟨2, ![2024, 256]⟩
abbrev S1x256 : Shape := ⟨2, ![1, 256]⟩
abbrev S256 : Shape := ⟨1, ![256]⟩
abbrev S1x8x256 : Shape := ⟨3, ![1, 8, 256]⟩
abbrev S512x2048 : Shape := ⟨2, ![512, 2048]⟩
abbrev S1x2048x1024 : Shape := ⟨3, ![1, 2048, 1024]⟩
abbrev S2048x1024 : Shape := ⟨2, ![2048, 1024]⟩
abbrev S512x1024 : Shape := ⟨2, ![512, 1024]⟩
abbrev S1x8x1024 : Shape := ⟨3, ![1, 8, 1024]⟩
abbrev S1024 : Shape := ⟨1, ![1024]⟩
abbrev S1x1024 : Shape := ⟨2, ![1, 1024]⟩
abbrev S512x8 : Shape := ⟨2, ![512, 8]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S256x8 : Shape := ⟨2, ![256, 8]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x256, .f32⟩
  | .hbm, ⟨1, _⟩ => ⟨S8x2048, .f32⟩
  | .hbm, ⟨2, _⟩ => ⟨S8x1024x2048, .f32⟩
  | .hbm, ⟨3, _⟩ => ⟨S8x1024, .f32⟩
  | .hbm, ⟨4, _⟩ => ⟨S8x2048, .f32⟩
  | .hbm, ⟨5, _⟩ => ⟨S8x1024x2048, .f32⟩
  | .hbm, ⟨6, _⟩ => ⟨S8x1024, .f32⟩
  | .hbm, ⟨7, _⟩ => ⟨S1024x8, .f32⟩
  | .hbm, ⟨8, _⟩ => ⟨S1024x8, .f32⟩
  | .hbm, ⟨9, _⟩ => ⟨S4x1024x256, .f32⟩
  | .hbm, ⟨10, _⟩ => ⟨S8x256, .f32⟩
  | .hbm, ⟨11, _⟩ => ⟨S256x8, .f32⟩
  | .local _ .vmem, ⟨0, _⟩ => ⟨S4x2048x256, .f32⟩
  | .local _ .vmem, ⟨1, _⟩ => ⟨S8x2048, .f32⟩
  | .local _ .vmem, ⟨2, _⟩ => ⟨S8x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1024x8, .f32⟩
  | .local _ .vmem, ⟨8, _⟩ => ⟨S1024x8, .f32⟩
  | .local _ .vmem, ⟨9, _⟩ => ⟨S4x1024x256, .f32⟩
  | .local _ .vmem, ⟨10, _⟩ => ⟨S8x256, .f32⟩
  | .local _ .vmem, ⟨11, _⟩ => ⟨S2x2048x1024, .f32⟩
  | .local _ .vmem, ⟨12, _⟩ => ⟨S2x8x1024, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_mult1 (i : grid0.Coords) : BitVec 32 :=
  let arg2 : BitVec 32 := BitVec.ofNat 32 (i 2).val
  let c512_i32 : BitVec 32 := 512#32
  let v27 : BitVec 32 := Scalar.muli arg2 c512_i32
  v27
def k0_off1 (i : grid0.Coords) : Fin 2 → Nat :=
  let arg2 : BitVec 32 := BitVec.ofNat 32 (i 2).val
  let c512_i32 : BitVec 32 := 512#32
  let v27 : BitVec 32 := Scalar.muli arg2 c512_i32
  let v28 : BitVec 32 := v27
  let v29 : Index := Scalar.indexCast v28
  let c0_16 : Index := 0#32
  ![v29.toNat, 0]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v44 : BitVec 32 := Scalar.extui v2
  let c0_i32_19 : BitVec 32 := 0#32
  let v45 : BitVec 1 := Scalar.cmpi .ne v44 c0_i32_19
  v45

def k0_off2 (i : grid0.Coords) : Fin 3 → Nat :=
  let c0_30 : Index := 0#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_31 : Index := 0#32
  ![0, v67.toNat, 0]
def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v46 : BitVec 1 := Scalar.xori v2 v_true
  let v47 : BitVec 32 := Scalar.extui v46
  let c0_i32_20 : BitVec 32 := 0#32
  let v48 : BitVec 1 := Scalar.cmpi .ne v47 c0_i32_20
  v48

def k0_off3 (i : grid0.Coords) : Fin 3 → Nat :=
  let c0_30 : Index := 0#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_31 : Index := 0#32
  ![0, v67.toNat, 0]
def k0_cond5 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v50 : BitVec 32 := Scalar.extui v2
  let c0_i32_21 : BitVec 32 := 0#32
  let v51 : BitVec 1 := Scalar.cmpi .ne v50 c0_i32_21
  v51

def k0_off4 (i : grid0.Coords) : Fin 3 → Nat :=
  let c1 : Index := 1#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![1, v67.toNat, 0]
def k0_cond6 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_22 : BitVec 1 := 1#1
  let v52 : BitVec 1 := Scalar.xori v2 true_22
  let v53 : BitVec 32 := Scalar.extui v52
  let c0_i32_23 : BitVec 32 := 0#32
  let v54 : BitVec 1 := Scalar.cmpi .ne v53 c0_i32_23
  v54

def k0_off5 (i : grid0.Coords) : Fin 3 → Nat :=
  let c1 : Index := 1#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![1, v67.toNat, 0]
def k0_cond7 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v56 : BitVec 32 := Scalar.extui v2
  let c0_i32_24 : BitVec 32 := 0#32
  let v57 : BitVec 1 := Scalar.cmpi .ne v56 c0_i32_24
  v57

def k0_off6 (i : grid0.Coords) : Fin 3 → Nat :=
  let c2 : Index := 2#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![2, v67.toNat, 0]
def k0_cond8 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_25 : BitVec 1 := 1#1
  let v58 : BitVec 1 := Scalar.xori v2 true_25
  let v59 : BitVec 32 := Scalar.extui v58
  let c0_i32_26 : BitVec 32 := 0#32
  let v60 : BitVec 1 := Scalar.cmpi .ne v59 c0_i32_26
  v60

def k0_off7 (i : grid0.Coords) : Fin 3 → Nat :=
  let c2 : Index := 2#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![2, v67.toNat, 0]
def k0_cond9 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v62 : BitVec 32 := Scalar.extui v2
  let c0_i32_27 : BitVec 32 := 0#32
  let v63 : BitVec 1 := Scalar.cmpi .ne v62 c0_i32_27
  v63

def k0_off8 (i : grid0.Coords) : Fin 3 → Nat :=
  let c3 : Index := 3#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![3, v67.toNat, 0]
def k0_cond10 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_28 : BitVec 1 := 1#1
  let v64 : BitVec 1 := Scalar.xori v2 true_28
  let v65 : BitVec 32 := Scalar.extui v64
  let c0_i32_29 : BitVec 32 := 0#32
  let v66 : BitVec 1 := Scalar.cmpi .ne v65 c0_i32_29
  v66

def k0_off9 (i : grid0.Coords) : Fin 3 → Nat :=
  let c3 : Index := 3#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![3, v67.toNat, 0]
def k0_cond11 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def k0_mult2 (i : grid0.Coords) : BitVec 32 :=
  let arg2 : BitVec 32 := BitVec.ofNat 32 (i 2).val
  let c512_i32 : BitVec 32 := 512#32
  let v27 : BitVec 32 := Scalar.muli arg2 c512_i32
  v27
def k0_off10 (i : grid0.Coords) : Fin 2 → Nat :=
  let arg2 : BitVec 32 := BitVec.ofNat 32 (i 2).val
  let c512_i32 : BitVec 32 := 512#32
  let v27 : BitVec 32 := Scalar.muli arg2 c512_i32
  let v28 : BitVec 32 := v27
  let v29 : Index := Scalar.indexCast v28
  let c0_15 : Index := 0#32
  ![v29.toNat, 0]
def k0_cond12 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v44 : BitVec 32 := Scalar.extui v2
  let c0_i32_18 : BitVec 32 := 0#32
  let v45 : BitVec 1 := Scalar.cmpi .ne v44 c0_i32_18
  v45

def k0_off11 (i : grid0.Coords) : Fin 3 → Nat :=
  let c0_29 : Index := 0#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![0, v67.toNat, 0]
def k0_cond13 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v46 : BitVec 1 := Scalar.xori v2 v_true
  let v47 : BitVec 32 := Scalar.extui v46
  let c0_i32_19 : BitVec 32 := 0#32
  let v48 : BitVec 1 := Scalar.cmpi .ne v47 c0_i32_19
  v48

def k0_off12 (i : grid0.Coords) : Fin 3 → Nat :=
  let c0_29 : Index := 0#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![0, v67.toNat, 0]
def k0_cond14 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v50 : BitVec 32 := Scalar.extui v2
  let c0_i32_20 : BitVec 32 := 0#32
  let v51 : BitVec 1 := Scalar.cmpi .ne v50 c0_i32_20
  v51

def k0_off13 (i : grid0.Coords) : Fin 3 → Nat :=
  let c1_29 : Index := 1#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![1, v67.toNat, 0]
def k0_cond15 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_21 : BitVec 1 := 1#1
  let v52 : BitVec 1 := Scalar.xori v2 true_21
  let v53 : BitVec 32 := Scalar.extui v52
  let c0_i32_22 : BitVec 32 := 0#32
  let v54 : BitVec 1 := Scalar.cmpi .ne v53 c0_i32_22
  v54

def k0_off14 (i : grid0.Coords) : Fin 3 → Nat :=
  let c1_29 : Index := 1#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_30 : Index := 0#32
  ![1, v67.toNat, 0]
def k0_cond16 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v56 : BitVec 32 := Scalar.extui v2
  let c0_i32_23 : BitVec 32 := 0#32
  let v57 : BitVec 1 := Scalar.cmpi .ne v56 c0_i32_23
  v57

def k0_off15 (i : grid0.Coords) : Fin 3 → Nat :=
  let c2 : Index := 2#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_29 : Index := 0#32
  ![2, v67.toNat, 0]
def k0_cond17 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_24 : BitVec 1 := 1#1
  let v58 : BitVec 1 := Scalar.xori v2 true_24
  let v59 : BitVec 32 := Scalar.extui v58
  let c0_i32_25 : BitVec 32 := 0#32
  let v60 : BitVec 1 := Scalar.cmpi .ne v59 c0_i32_25
  v60

def k0_off16 (i : grid0.Coords) : Fin 3 → Nat :=
  let c2 : Index := 2#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_29 : Index := 0#32
  ![2, v67.toNat, 0]
def k0_cond18 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v62 : BitVec 32 := Scalar.extui v2
  let c0_i32_26 : BitVec 32 := 0#32
  let v63 : BitVec 1 := Scalar.cmpi .ne v62 c0_i32_26
  v63

def k0_off17 (i : grid0.Coords) : Fin 3 → Nat :=
  let c3 : Index := 3#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_29 : Index := 0#32
  ![3, v67.toNat, 0]
def k0_cond19 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_27 : BitVec 1 := 1#1
  let v64 : BitVec 1 := Scalar.xori v2 true_27
  let v65 : BitVec 32 := Scalar.extui v64
  let c0_i32_28 : BitVec 32 := 0#32
  let v66 : BitVec 1 := Scalar.cmpi .ne v65 c0_i32_28
  v66

def k0_off18 (i : grid0.Coords) : Fin 3 → Nat :=
  let c3 : Index := 3#32
  let arg2 : BitVec 32 := BitVec.ofNat 32 (i 2).val
  let c512_i32 : BitVec 32 := 512#32
  let v27 : BitVec 32 := Scalar.muli arg2 c512_i32
  let v28 : BitVec 32 := v27
  let v67 : Index := Scalar.indexCast v28
  let c0_29 : Index := 0#32
  ![3, v67.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli v0 arg1
  let c7_i32 : BitVec 32 := 7#32
  let v2 : BitVec 32 := Scalar.muli arg0 c7_i32
  let v3 : BitVec 32 := Scalar.addi v1 v2
  let c1_i32_0 : BitVec 32 := 1#32
  let v4 : BitVec 32 := Scalar.subi c1_i32_0 arg0
  let v5 : BitVec 32 := Scalar.muli v4 arg2
  let v6 : BitVec 32 := Scalar.addi v5 arg0
  let c0_i32 : BitVec 32 := 0#32
  let c0_i32_1 : BitVec 32 := 0#32
  ![v3.toNat, v6.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg0 arg1
  let v1 : BitVec 32 := Scalar.muli arg0 arg2
  let c0_i32 : BitVec 32 := 0#32
  let c0_i32_0 : BitVec 32 := 0#32
  ![v0.toNat, v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== KernelIdeal.lean ====
variable {F : FTy → Type} [FloatOps F] [Named F]
def κ : String → Option EReal := fun
  | "inv_25" => some ((25⁻¹ : ℝ) : EReal)
  | _ => none
-- ==== ReferenceIdeal.lean ====
abbrev S4x2048x256 : Shape := ⟨3, ![4, 2048, 256]⟩
abbrev S8x2048 : Shape := ⟨2, ![8, 2048]⟩
abbrev S8x1024x2048 : Shape := ⟨3, ![8, 1024, 2048]⟩
abbrev S8x1024 : Shape := ⟨2, ![8, 1024]⟩
abbrev S4x1x256 : Shape := ⟨3, ![4, 1, 256]⟩
abbrev S4x1x12x256 : Shape := ⟨4, ![4, 1, 12, 256]⟩
abbrev S4x12x256 : Shape := ⟨3, ![4, 12, 256]⟩
abbrev S4x2072x256 : Shape := ⟨3, ![4, 2072, 256]⟩
abbrev S_ : Shape := ⟨0, ![]⟩
abbrev S4x2073x256 : Shape := ⟨3, ![4, 2073, 256]⟩
abbrev S4x256x2048 : Shape := ⟨3, ![4, 256, 2048]⟩
abbrev S2048x8 : Shape := ⟨2, ![2048, 8]⟩
abbrev S4x256x8 : Shape := ⟨3, ![4, 256, 8]⟩
abbrev S4x256 : Shape := ⟨2, ![4, 256]⟩
abbrev S4x256x1 : Shape := ⟨3, ![4, 256, 1]⟩
abbrev S4x256x2 : Shape := ⟨3, ![4, 256, 2]⟩
abbrev S4x256x2x1 : Shape := ⟨4, ![4, 256, 2, 1]⟩
abbrev S1x1x1x8 : Shape := ⟨4, ![1, 1, 1, 8]⟩
abbrev S4x256x2x8 : Shape := ⟨4, ![4, 256, 2, 8]⟩
abbrev S4x256x8x1024 : Shape := ⟨4, ![4, 256, 8, 1024]⟩
abbrev S1x1x8x1024 : Shape := ⟨4, ![1, 1, 8, 1024]⟩
abbrev S4x256x1024 : Shape := ⟨3, ![4, 256, 1024]⟩
abbrev S4x1024x256 : Shape := ⟨3, ![4, 1024, 256]⟩
abbrev S256x8 : Shape := ⟨2, ![256, 8]⟩

abbrev nBuf : Space → Nat
  | .hbm => 105
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S8x2048, .f32⟩
  | .hbm, ⟨2, _⟩ => ⟨S8x1024x2048, .f32⟩
  | .hbm, ⟨3, _⟩ => ⟨S8x1024, .f32⟩
  | .hbm, ⟨4, _⟩ => ⟨S8x2048, .f32⟩
  | .hbm, ⟨5, _⟩ => ⟨S8x1024x2048, .f32⟩
  | .hbm, ⟨6, _⟩ => ⟨S8x1024, .f32⟩
  | .hbm, ⟨7, _⟩ => ⟨S4x1x256, .f32⟩
  | .hbm, ⟨8, _⟩ => ⟨S4x1x12x256, .f32⟩
  | .hbm, ⟨9, _⟩ => ⟨S4x12x256, .f32⟩
  | .hbm, ⟨10, _⟩ => ⟨S4x1x256, .f32⟩
  | .hbm, ⟨11, _⟩ => ⟨S4x1x12x256, .f32⟩
  | .hbm, ⟨12, _⟩ => ⟨S4x12x256, .f32⟩
  | .hbm, ⟨13, _⟩ => ⟨S4x2072x256, .f32⟩
  | .hbm, ⟨14, _⟩ => ⟨S4x1x256, .f32⟩
  | .hbm, ⟨15, _⟩ => ⟨S_, .f32⟩
  | .hbm, ⟨16, _⟩ => ⟨S4x1x256, .f32⟩
  | .hbm, ⟨17, _⟩ => ⟨S_, .f32⟩
  | .hbm, ⟨18, _⟩ => ⟨S_, .f32⟩
  | .hbm, ⟨19, _⟩ => ⟨S4x2072x256, .f32⟩
  | .hbm, ⟨20, _⟩ => ⟨S4x2073x256, .f32⟩
  | .hbm, ⟨21, _⟩ => ⟨S4x2048x256, .f32⟩
  | .hbm, ⟨22, _⟩ => ⟨S4x2048x256, .f32⟩
  | .hbm, ⟨23, _⟩ => ⟨S4x2048x256, .f32⟩
  | .hbm, ⟨24, _⟩ => ⟨S_, .f32⟩
  | .hbm, ⟨25, _⟩ => ⟨S4x2048x256, .f32⟩
  | .hbm, ⟨26, _⟩ => ⟨S4x2048x256, .f32⟩
  | .hbm, ⟨27, _⟩ => ⟨S4x2048x256, .f32⟩
  | .hbm, ⟨28, _⟩ => ⟨S4x256x2048, .f32⟩
  | .hbm, ⟨29, _⟩ => ⟨S4x256x2048, .f32⟩
  | .hbm, ⟨30, _⟩ => ⟨S2048x8, .f32⟩
  | .hbm, ⟨31, _⟩ => ⟨S4x256x8, .f32⟩
  | .hbm, ⟨32, _⟩ => ⟨S_, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | .hbm, ⟨37, _⟩ => ⟨S4x256x1, .f32⟩
  | .hbm, ⟨38, _⟩ => ⟨S4x256x8, .f32⟩
  | .hbm, ⟨39, _⟩ => ⟨S4x256x8, .f32⟩
  | .hbm, ⟨40, _⟩ => ⟨S4x256x8, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S4x256x8, .f32⟩
  | .hbm, ⟨45, _⟩ => ⟨S4x256x8, .f32⟩
  | .hbm, ⟨46, _⟩ => ⟨S4x256x2, .f32⟩
  | .hbm, ⟨47, _⟩ => ⟨S4x256x2, .i32⟩
  | .hbm, ⟨48, _⟩ => ⟨S4x256x2x1, .f32⟩
  | .hbm, ⟨49, _⟩ => ⟨S4x256x2x1, .i32⟩
  | .hbm, ⟨50, _⟩ => ⟨S1x1x1x8, .i32⟩
  | .hbm, ⟨51, _⟩ => ⟨S4x256x2x8, .i32⟩
  | .hbm, ⟨52, _⟩ => ⟨S4x256x2x8, .i32⟩
  | .hbm, ⟨53, _⟩ => ⟨S4x256x2x8, .i1⟩
  | .hbm, ⟨54, _⟩ => ⟨S4x256x2x8, .f32⟩
  | .hbm, ⟨55, _⟩ => ⟨S4x256x2x8, .f32⟩
  | .hbm, ⟨56, _⟩ => ⟨S4x256x2x8, .f32⟩
  | .hbm, ⟨57, _⟩ => ⟨S_, .f32⟩
  | .hbm, ⟨58, _⟩ => ⟨S4x256x8, .f32⟩
  | .hbm, ⟨59, _⟩ => ⟨S4x256x8x1024, .f32⟩
  | .hbm, ⟨60, _⟩ => ⟨S1x1x8x1024, .f32⟩
  | .hbm, ⟨61, _⟩ => ⟨S4x256x8x1024, .f32⟩
  | .hbm, ⟨62, _⟩ => ⟨S4x256x8x1024, .f32⟩
  | .hbm, ⟨63, _⟩ => ⟨S4x256x1024, .f32⟩
  | .hbm, ⟨64, _⟩ => ⟨S2048x8, .f32⟩
  | .hbm, ⟨65, _⟩ => ⟨S4x256x8, .f32⟩
  | .hbm, ⟨66, _⟩ => ⟨S_, .f32⟩
  | .hbm, ⟨67, _⟩ => ⟨S4x256, .f32⟩
  | .hbm, ⟨68, _⟩ => ⟨S_, .f32⟩
  | .hbm, ⟨69, _⟩ => ⟨S4x256, .f32⟩
  | .hbm, ⟨70, _⟩ => ⟨S4x256, .f32⟩
  | .hbm, ⟨71, _⟩ => ⟨S4x256x1, .f32⟩
  | .hbm, ⟨72, _⟩ => ⟨S4x256x8, .f32⟩
  | .hbm, ⟨73, _⟩ => ⟨S4x256x8, .f32⟩
  | .hbm, ⟨74, _⟩ => ⟨S4x256x8, .f32⟩
  | .hbm, ⟨75, _⟩ => ⟨S_, .f32⟩
  | .hbm, ⟨76, _⟩ => ⟨S4x256, .f32⟩
  | .hbm, ⟨77, _⟩ => ⟨S4x256x1, .f32⟩
  | .hbm, ⟨78, _⟩ => ⟨S4x256x8, .f32⟩
  | .hbm, ⟨79, _⟩ => ⟨S4x256x8, .f32⟩
  | .hbm, ⟨80, _⟩ => ⟨S4x256x2, .f32⟩
  | .hbm, ⟨81, _⟩ => ⟨S4x256x2, .i32⟩
  | .hbm, ⟨82, _⟩ => ⟨S4x256x2x1, .f32⟩
  | .hbm, ⟨83, _⟩ => ⟨S4x256x2x1, .i32⟩
  | .hbm, ⟨84, _⟩ => ⟨S1x1x1x8, .i32⟩
  | .hbm, ⟨85, _⟩ => ⟨S4x256x2x8, .i32⟩
  | .hbm, ⟨86, _⟩ => ⟨S4x256x2x8, .i32⟩
  | .hbm, ⟨87, _⟩ => ⟨S4x256x2x8, .i1⟩
  | .hbm, ⟨88, _⟩ => ⟨S4x256x2x8, .f32⟩
  | .hbm, ⟨89, _⟩ => ⟨S4x256x2x8, .f32⟩
  | .hbm, ⟨90, _⟩ => ⟨S4x256x2x8, .f32⟩
  | .hbm, ⟨91, _⟩ => ⟨S_, .f32⟩
  | .hbm, ⟨92, _⟩ => ⟨S4x256x8, .f32⟩
  | .hbm, ⟨93, _⟩ => ⟨S4x256x8x1024, .f32⟩
  | .hbm, ⟨94, _⟩ => ⟨S1x1x8x1024, .f32⟩
  | .hbm, ⟨95, _⟩ => ⟨S4x256x8x1024, .f32⟩
  | .hbm, ⟨96, _⟩ => ⟨S4x256x8x1024, .f32⟩
  | .hbm, ⟨97, _⟩ => ⟨S4x256x1024, .f32⟩
  | .hbm, ⟨98, _⟩ => ⟨S4x256x1024, .f32⟩
  | .hbm, ⟨99, _⟩ => ⟨S4x1024x256, .f32⟩
  | .hbm, ⟨100, _⟩ => ⟨S_, .f32⟩
  | .hbm, ⟨101, _⟩ => ⟨S256x8, .f32⟩
  | .hbm, ⟨102, _⟩ => ⟨S_, .f32⟩
  | .hbm, ⟨103, _⟩ => ⟨S256x8, .f32⟩
  | .hbm, ⟨104, _⟩ => ⟨S256x8, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_call0_call0_cst : Ref sig .tc := ⟨.hbm, 17, rfl⟩
abbrev main_call0_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_values : Ref sig .tc := ⟨.hbm, 46, rfl⟩
abbrev main_indices : Ref sig .tc := ⟨.hbm, 47, rfl⟩
abbrev main_v32 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_values_8 : Ref sig .tc := ⟨.hbm, 80, rfl⟩
abbrev main_indices_9 : Ref sig .tc := ⟨.hbm, 81, rfl⟩
abbrev main_v55 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Proof.Setup.lean ====
/- What the runs of the kernel body share: which of its conditionals a grid point takes, the memrefs the
   pipeline calls it with, and the two scratch buffers. The set-up follows the generated frame of `Kernel`. -/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! ## The conditionals -/

/-- The prologue runs, at the first point only. -/
abbrev Prologue (i : grid0.Coords) : Prop := k0_cond1 i = 1#1

/-- The point works on the seasonal half and stores its contribution (no sum so far). -/
abbrev SeaFirst (i : grid0.Coords) : Prop :=
  k0_cond2 i = 1#1 ∧ k0_cond3 i = 1#1 ∧ ¬ k0_cond4 i = 1#1 ∧ k0_cond5 i = 1#1 ∧ ¬ k0_cond6 i = 1#1
    ∧ k0_cond7 i = 1#1 ∧ ¬ k0_cond8 i = 1#1 ∧ k0_cond9 i = 1#1 ∧ ¬ k0_cond10 i = 1#1 ∧ ¬ k0_cond11 i = 1#1

/-- The point works on the seasonal half and adds its contribution to the sum so far. -/
abbrev SeaAdd (i : grid0.Coords) : Prop :=
  k0_cond2 i = 1#1 ∧ ¬ k0_cond3 i = 1#1 ∧ k0_cond4 i = 1#1 ∧ ¬ k0_cond5 i = 1#1 ∧ k0_cond6 i = 1#1
    ∧ ¬ k0_cond7 i = 1#1 ∧ k0_cond8 i = 1#1 ∧ ¬ k0_cond9 i = 1#1 ∧ k0_cond10 i = 1#1 ∧ ¬ k0_cond11 i = 1#1

/-- The point works on the trend half and adds its contribution to the sum so far. -/
abbrev TrendAdd (i : grid0.Coords) : Prop :=
  ¬ k0_cond2 i = 1#1 ∧ k0_cond11 i = 1#1 ∧ ¬ k0_cond12 i = 1#1 ∧ k0_cond13 i = 1#1 ∧ ¬ k0_cond14 i = 1#1
    ∧ k0_cond15 i = 1#1 ∧ ¬ k0_cond16 i = 1#1 ∧ k0_cond17 i = 1#1 ∧ ¬ k0_cond18 i = 1#1 ∧ k0_cond19 i = 1#1

/-- Each kind of point, by the point's number: decided over the grid. -/
theorem prologue_iff : ∀ t : Fin cfg0.N, Prologue (grid0.coords t) ↔ t.val = 0 :=
  (by decide +kernel : ∀ t : Fin grid0.N, Prologue (grid0.coords t) ↔ t.val = 0)
/-- The first two steps store. -/
theorem seaFirst_of : ∀ t : Fin cfg0.N, t.val < 2 → SeaFirst (grid0.coords t) :=
  (by decide +kernel : ∀ t : Fin grid0.N, t.val < 2 → SeaFirst (grid0.coords t))
/-- The other steps of the first half add a seasonal expert. -/
theorem seaAdd_of : ∀ t : Fin cfg0.N, 2 ≤ t.val → t.val < 16 → SeaAdd (grid0.coords t) :=
  (by decide +kernel : ∀ t : Fin grid0.N, 2 ≤ t.val → t.val < 16 → SeaAdd (grid0.coords t))
/-- The steps of the second half add a trend expert. -/
theorem trendAdd_of : ∀ t : Fin cfg0.N, 16 ≤ t.val → TrendAdd (grid0.coords t) :=
  (by decide +kernel : ∀ t : Fin grid0.N, 16 ≤ t.val → TrendAdd (grid0.coords t))

/-! ## The memrefs -/

/-- Each window's current staging memref at point `t`, as the pipeline passes it. -/
abbrev ms0 (t : Fin cfg0.N) : Memref sig .tc .vmem S4x2048x256 .f32 := win0_0.stage (cfg0.slots t 0)
/-- Window 1, staged. -/
abbrev ms1 (t : Fin cfg0.N) : Memref sig .tc .vmem S8x2048 .f32 := win0_1.stage (cfg0.slots t 1)
/-- Window 2, staged. -/
abbrev ms2 (t : Fin cfg0.N) : Memref sig .tc .vmem S8x2048 .f32 := win0_2.stage (cfg0.slots t 2)
/-- Window 3, staged. -/
abbrev ms3 (t : Fin cfg0.N) : Memref sig .tc .vmem S1x512x2048 .f32 := win0_3.stage (cfg0.slots t 3)
/-- Window 4, staged. -/
abbrev ms4 (t : Fin cfg0.N) : Memref sig .tc .vmem S1x512x2048 .f32 := win0_4.stage (cfg0.slots t 4)
/-- Window 5, staged. -/
abbrev ms5 (t : Fin cfg0.N) : Memref sig .tc .vmem S1024x8 .f32 := win0_5.stage (cfg0.slots t 5)
/-- Window 6, staged. -/
abbrev ms6 (t : Fin cfg0.N) : Memref sig .tc .vmem S1024x8 .f32 := win0_6.stage (cfg0.slots t 6)
/-- Window 7, staged. -/
abbrev ms7 (t : Fin cfg0.N) : Memref sig .tc .vmem S4x1024x256 .f32 := win0_7.stage (cfg0.slots t 7)
/-- Window 8, staged. -/
abbrev ms8 (t : Fin cfg0.N) : Memref sig .tc .vmem S8x256 .f32 := win0_8.stage (cfg0.slots t 8)
/-- The scratch buffers: the two decompositions and the two gate weights, kept between the points. -/
abbrev scA : Memref sig .tc .vmem S2x2048x1024 .f32 := Memref.whole cc0_scratch0
/-- The scratch of the gate weights. -/
abbrev scC : Memref sig .tc .vmem S2x8x1024 .f32 := Memref.whole cc0_scratch1

/-- The invariant of the launch with the scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scC fullShare d)) ∗ (∃ r, prngReg c r)) := by
  unfold Pipeline.ΦA; rw [scopedRest0_eq]; simp only [scA, scC, owns_whole]; try rfl

/-- The body the pipeline runs at point `t` is the kernel function on the point's memrefs. -/
theorem defs₀_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.Steps.lean ====
/- What one grid point does to the result window: it stores or adds its contribution (512 output steps by all
   1024 batch-and-variable columns) to one half of the output steps, batch by batch. -/
module

public import proofs.«01_k».proof.Proof.Setup
public import Idealize.ShloMosaic.Lib.Pointwise
public import Idealize.ShloMosaic.Lib.WholeRead
public import Idealize.ShloMosaic.Lib.WritesUnit

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-- The column of batch `b` and variable `v` in the flattened arrays. -/
def col (b : Fin 4) (v : Fin 256) : Fin 1024 := ⟨256 * b.val + v.val, by have := b.isLt; have := v.isLt; omega⟩

/-- Batch zero begins at column zero. -/
theorem col_zero (v : Fin 256) : col 0 v = ⟨v.val, by have := v.isLt; omega⟩ :=
  Fin.ext (by show 256 * 0 + v.val = v.val; omega)

/-- The result window after a point working on half `p` of the output steps: there the contribution is
    combined with what was held (`op`), elsewhere nothing changes. -/
def step (op : F .f32 → F .f32 → F .f32) (p : ℕ) (con : FVec F S512x1024 .f32) (o : Vec F S4x1024x256 .f32) :
    Vec F S4x1024x256 .f32 :=
  fun y => if (y 1).val / 512 = p then op (o y) (con (ix2 ⟨(y 1).val % 512, Nat.mod_lt _ (by decide)⟩ (col (y 0) (y 2)))) else o y

/-- The half of the output steps a point works on. -/
abbrev half (i : grid0.Coords) : Fin 2 := i 2

/-- The contribution of a point: the gate's row `e` times (the expert's product plus the bias column `e`). -/
abbrev contribution (e : ℕ) (w : Vec F S1x512x2048 .f32) (a : Vec F S1x2048x1024 .f32) (g : Vec F S1x8x1024 .f32)
    (bt : Vec F S512x8 .f32) : FVec F S512x1024 .f32 := k0_pay242 (BitVec.ofNat 32 e) w a g bt

/-- Layer `k` of the scratch of the decompositions. -/
def layerA (k : Fin 2) (a : Vec F S2x2048x1024 .f32) : Vec F S1x2048x1024 .f32 := fun y => a (ix3 k (y 1) (y 2))
/-- Layer `k` of the scratch of the gate weights. -/
def layerC (k : Fin 2) (g : Vec F S2x8x1024 .f32) : Vec F S1x8x1024 .f32 := fun y => g (ix3 k (y 1) (y 2))
/-- Half `p` of the rows of a bias window. -/
def halfRows (p : Fin 2) (bt : Vec F S1024x8 .f32) : Vec F S512x8 .f32 :=
  fun y => bt (ix2 ⟨512 * p.val + (y 0).val, by have := p.isLt; have h : (y 0).val < 512 := (y 0).isLt; omega⟩ (y 1))

/-- Four stores, one per batch, into half `p` of the output steps: the window reads `G` when each payload is
    `G` on its rectangle and `G` agrees with what was held off the half. -/
theorem read_four {m : Memref sig .tc .vmem S4x1024x256 .f32} (f : m.view.ty.Contents (Elt F)) (p : Fin 2)
    {o0 o1 o2 o3 : Fin 3 → ℕ} (e0 : o0 = ![0, 512 * p.val, 0]) (e1 : o1 = ![1, 512 * p.val, 0])
    (e2 : o2 = ![2, 512 * p.val, 0]) (e3 : o3 = ![3, 512 * p.val, 0])
    (i0 : ∀ a, o0 a + S1x512x256.size a ≤ S4x1024x256.size a) (i1 : ∀ a, o1 a + S1x512x256.size a ≤ S4x1024x256.size a)
    (i2 : ∀ a, o2 a + S1x512x256.size a ≤ S4x1024x256.size a) (i3 : ∀ a, o3 a + S1x512x256.size a ≤ S4x1024x256.size a)
    (w0 w1 w2 w3 : Vec F S1x512x256 .f32) (G : Vec F S4x1024x256 .f32)
    (h0 : ∀ (r : Fin 512) (l : Fin 256), w0 (ix3 0 r l) = G (ix3 0 ⟨512 * p.val + r.val, by omega⟩ l))
    (h1 : ∀ (r : Fin 512) (l : Fin 256), w1 (ix3 0 r l) = G (ix3 1 ⟨512 * p.val + r.val, by omega⟩ l))
    (h2 : ∀ (r : Fin 512) (l : Fin 256), w2 (ix3 0 r l) = G (ix3 2 ⟨512 * p.val + r.val, by omega⟩ l))
    (h3 : ∀ (r : Fin 512) (l : Fin 256), w3 (ix3 0 r l) = G (ix3 3 ⟨512 * p.val + r.val, by omega⟩ l))
    (hG : ∀ y, (y 1).val / 512 ≠ p.val → m.view.read (Elt F) f y = G y) :
    m.view.read (Elt F) (m.view.writes (Elt F) f
      [⟨Rect.unit (s := S4x1024x256) o3 S1x512x256.size i3, w3⟩, ⟨Rect.unit (s := S4x1024x256) o2 S1x512x256.size i2, w2⟩,
       ⟨Rect.unit (s := S4x1024x256) o1 S1x512x256.size i1, w1⟩, ⟨Rect.unit (s := S4x1024x256) o0 S1x512x256.size i0, w0⟩]) = G := by
  subst e0 e1 e2 e3
  funext y
  idx_vars y
  by_cases hp : y1.val / 512 = p.val
  · have hr : y1 = ⟨512 * p.val + (⟨y1.val % 512, Nat.mod_lt _ (by decide)⟩ : Fin 512).val, by have := p.isLt; show 512 * p.val + y1.val % 512 < 1024; omega⟩ :=
      Fin.ext (by show y1.val = 512 * p.val + y1.val % 512; omega)
    have hit : ∀ (b : Fin 4) (off : Fin 3 → ℕ) (inb : ∀ a, off a + S1x512x256.size a ≤ S4x1024x256.size a) (w : Vec F S1x512x256 .f32) L,
        off = ![b.val, 512 * p.val, 0] → y0 = b → m.view.read (Elt F) (m.view.writes (Elt F) f (⟨Rect.unit (s := S4x1024x256) off S1x512x256.size inb, w⟩ :: L)) (ix3 y0 y1 y2) = w (ix3 0 ⟨y1.val % 512, Nat.mod_lt _ (by decide)⟩ y2) :=
      fun b off inb w L e hb => View.read_writes_cons_unit_of_mem m.view f inb w L _ (ix3 0 ⟨y1.val % 512, Nat.mod_lt _ (by decide)⟩ y2) e fun a => by
        subst hb
        fin_cases a
        · show y0.val = y0.val + 0; rfl
        · show y1.val = 512 * p.val + y1.val % 512; omega
        · show y2.val = 0 + y2.val; omega
    have miss : ∀ (b : Fin 4) (inb : ∀ a, (![b.val, 512 * p.val, 0] : Fin 3 → ℕ) a + S1x512x256.size a ≤ S4x1024x256.size a) (w : Vec F S1x512x256 .f32) L,
        y0 ≠ b → m.view.read (Elt F) (m.view.writes (Elt F) f (⟨Rect.unit (s := S4x1024x256) ![b.val, 512 * p.val, 0] S1x512x256.size inb, w⟩ :: L)) (ix3 y0 y1 y2) = m.view.read (Elt F) (m.view.writes (Elt F) f L) (ix3 y0 y1 y2) :=
      fun b inb w L hb => View.read_writes_cons_unit_of_not_mem m.view f inb w L _ rfl 0 (by
        have : y0.val ≠ b.val := fun h => hb (Fin.ext h)
        show y0.val < b.val ∨ b.val + 1 ≤ y0.val
        omega)
    by_cases b3 : y0 = 3
    · refine (hit 3 _ i3 w3 _ rfl b3).trans ((h3 _ _).trans ?_)
      rw [← hr, b3]
    · refine (miss 3 i3 w3 _ b3).trans ?_
      by_cases b2 : y0 = 2
      · refine (hit 2 _ i2 w2 _ rfl b2).trans ((h2 _ _).trans ?_)
        rw [← hr, b2]
      · refine (miss 2 i2 w2 _ b2).trans ?_
        by_cases b1 : y0 = 1
        · refine (hit 1 _ i1 w1 _ rfl b1).trans ((h1 _ _).trans ?_)
          rw [← hr, b1]
        · refine (miss 1 i1 w1 _ b1).trans ?_
          have b0 : y0 = 0 := Fin.ext (by
            have : y0.val ≠ 3 := fun h => b3 (Fin.ext h)
            have : y0.val ≠ 2 := fun h => b2 (Fin.ext h)
            have : y0.val ≠ 1 := fun h => b1 (Fin.ext h)
            show y0.val = 0; omega)
          refine (hit 0 _ i0 w0 _ rfl b0).trans ((h0 _ _).trans ?_)
          rw [← hr, b0]
  · have miss : ∀ (b : ℕ) (inb : ∀ a, (![b, 512 * p.val, 0] : Fin 3 → ℕ) a + S1x512x256.size a ≤ S4x1024x256.size a) (w : Vec F S1x512x256 .f32) L,
        m.view.read (Elt F) (m.view.writes (Elt F) f (⟨Rect.unit (s := S4x1024x256) ![b, 512 * p.val, 0] S1x512x256.size inb, w⟩ :: L)) (ix3 y0 y1 y2) = m.view.read (Elt F) (m.view.writes (Elt F) f L) (ix3 y0 y1 y2) :=
      fun b inb w L => View.read_writes_cons_unit_of_not_mem m.view f inb w L _ rfl 1 (by
        show y1.val < 512 * p.val ∨ 512 * p.val + 512 ≤ y1.val
        omega)
    refine (miss 3 i3 w3 _).trans ((miss 2 i2 w2 _).trans ((miss 1 i1 w1 _).trans ((miss 0 i0 w0 _).trans ?_)))
    exact hG (ix3 y0 y1 y2) hp

/-- A load of batch `b`'s rows of half `p` of a window held at `o`. -/
theorem readAt_half {m : Memref sig .tc .vmem S4x1024x256 .f32} (hm : m.IsWhole) (o : Vec F S4x1024x256 .f32) (p : Fin 2) (b : Fin 4)
    {off : Fin 3 → ℕ} (e : off = ![b.val, 512 * p.val, 0]) (inb : ∀ a, off a + S1x512x256.size a ≤ S4x1024x256.size a)
    (r : Fin 512) (l : Fin 256) :
    View.readAt (Elt F) m.view (Rect.unit (s := S4x1024x256) off S1x512x256.size inb).toLoadRect (hm.unread o) (ix3 0 r l)
      = o (ix3 b ⟨512 * p.val + r.val, by omega⟩ l) := by
  subst e
  rw [hm.readAt_unread]
  refine congrArg o (funext fun a => Fin.ext ?_)
  fin_cases a
  · show b.val + 1 * 0 = b.val; omega
  · show 512 * p.val + 1 * r.val = 512 * p.val + r.val; omega
  · show 0 + 1 * l.val = l.val; omega

/-- What `step` holds on batch `b`'s rows of half `p`. -/
theorem step_at (op : F .f32 → F .f32 → F .f32) (p : Fin 2) (con : FVec F S512x1024 .f32) (o : Vec F S4x1024x256 .f32)
    (b : Fin 4) (r : Fin 512) (l : Fin 256) :
    step op p.val con o (ix3 b ⟨512 * p.val + r.val, by omega⟩ l)
      = op (o (ix3 b ⟨512 * p.val + r.val, by omega⟩ l)) (con (ix2 r (col b l))) := by
  have h1 : (512 * p.val + r.val) / 512 = p.val := by omega
  have h2 : (⟨(512 * p.val + r.val) % 512, Nat.mod_lt _ (by decide)⟩ : Fin 512) = r := Fin.ext (by show (512 * p.val + r.val) % 512 = r.val; omega)
  show (if (512 * p.val + r.val) / 512 = p.val then op _ (con (ix2 ⟨(512 * p.val + r.val) % 512, _⟩ (col b l))) else _) = _
  rw [if_pos h1, h2]

/-- Off its half `step` changes nothing. -/
theorem step_off (op : F .f32 → F .f32 → F .f32) (p : ℕ) (con : FVec F S512x1024 .f32) (o : Vec F S4x1024x256 .f32)
    (y : S4x1024x256.Idx) (h : (y 1).val / 512 ≠ p) : step op p con o y = o y := if_neg h

/-! ## The loads -/

/-- A layer of the decompositions, read. -/
theorem readAt_layerA {m : Memref sig .tc .vmem S2x2048x1024 .f32} (hm : m.IsWhole) (a : Vec F S2x2048x1024 .f32) (k : Fin 2)
    (inb : ∀ x, (![k.val, 0, 0] : Fin 3 → ℕ) x + S1x2048x1024.size x ≤ S2x2048x1024.size x) :
    View.readAt (Elt F) m.view (Rect.unit (s := S2x2048x1024) ![k.val, 0, 0] S1x2048x1024.size inb).toLoadRect (hm.unread a) = layerA k a := by
  funext y
  rw [hm.readAt_unread]
  refine congrArg a (funext fun x => Fin.ext ?_)
  fin_cases x
  · have h : (y 0).val < 1 := (y 0).isLt
    show k.val + 1 * (y 0).val = k.val; omega
  · show 0 + 1 * (y 1).val = (y 1).val; omega
  · show 0 + 1 * (y 2).val = (y 2).val; omega

/-- A layer of the weights, read. -/
theorem readAt_layerC {m : Memref sig .tc .vmem S2x8x1024 .f32} (hm : m.IsWhole) (g : Vec F S2x8x1024 .f32) (k : Fin 2)
    (inb : ∀ x, (![k.val, 0, 0] : Fin 3 → ℕ) x + S1x8x1024.size x ≤ S2x8x1024.size x) :
    View.readAt (Elt F) m.view (Rect.unit (s := S2x8x1024) ![k.val, 0, 0] S1x8x1024.size inb).toLoadRect (hm.unread g) = layerC k g := by
  funext y
  rw [hm.readAt_unread]
  refine congrArg g (funext fun x => Fin.ext ?_)
  fin_cases x
  · have h : (y 0).val < 1 := (y 0).isLt
    show k.val + 1 * (y 0).val = k.val; omega
  · show 0 + 1 * (y 1).val = (y 1).val; omega
  · show 0 + 1 * (y 2).val = (y 2).val; omega

/-- Half the rows of the biases, read. -/
theorem readAt_halfRows {m : Memref sig .tc .vmem S1024x8 .f32} (hm : m.IsWhole) (bt : Vec F S1024x8 .f32) (p : Fin 2)
    {off : Fin 2 → ℕ} (e : off = ![512 * p.val, 0]) (inb : ∀ x, off x + S512x8.size x ≤ S1024x8.size x) :
    View.readAt (Elt F) m.view (Rect.unit (s := S1024x8) off S512x8.size inb).toLoadRect (hm.unread bt) = halfRows p bt := by
  subst e
  funext y
  rw [hm.readAt_unread]
  refine congrArg bt (funext fun x => Fin.ext ?_)
  fin_cases x
  · show 512 * p.val + 1 * (y 0).val = 512 * p.val + (y 0).val; omega
  · show 0 + 1 * (y 1).val = (y 1).val; omega

/-- An expert's block of rows, read. -/
theorem readAt_block {m : Memref sig .tc .vmem S1x512x2048 .f32} (hm : m.IsWhole) (w : Vec F S1x512x2048 .f32)
    (inb : ∀ x, (![0, 0, 0] : Fin 3 → ℕ) x + S1x512x2048.size x ≤ S1x512x2048.size x) :
    View.readAt (Elt F) m.view (Rect.unit (s := S1x512x2048) ![0, 0, 0] S1x512x2048.size inb).toLoadRect (hm.unread w) = w := by
  funext y
  rw [hm.readAt_unread]
  refine congrArg w (funext fun x => Fin.ext ?_)
  fin_cases x
  · show 0 + 1 * (y 0).val = (y 0).val; omega
  · show 0 + 1 * (y 1).val = (y 1).val; omega
  · show 0 + 1 * (y 2).val = (y 2).val; omega

/-! ## The payloads -/

section Payloads

variable (e : BitVec 32) (w : Vec F S1x512x2048 .f32) (a : Vec F S1x2048x1024 .f32) (g : Vec F S1x8x1024 .f32)
  (bt : Vec F S512x8 .f32) (old : Vec F S1x512x256 .f32) (con : FVec F S512x1024 .f32) (r : Fin 512) (l : Fin 256)

/-- The two branches compute their contribution by the same operations. -/
theorem pay247_eq : k0_pay247 e w a g bt = k0_pay242 e w a g bt := rfl

/-- What a first step stores for batch 0: its columns of the contribution. -/
theorem store0 : k0_pay244 e w a g bt (ix3 0 r l) = k0_pay242 e w a g bt (ix2 r (col 0 l)) := by
  pointwise [k0_pay244, k0_pay243]; rw [col_zero]
/-- What another step stores for batch 0: the old block and its columns of the contribution, added. -/
theorem add0 : k0_pay245 e w a g bt old (ix3 0 r l) = FloatOps.addf (old (ix3 0 r l)) (k0_pay242 e w a g bt (ix2 r (col 0 l))) := by
  pointwise [k0_pay245, k0_pay243]; rw [col_zero]
/-- What a first step stores for batch 1: its columns of the contribution. -/
theorem store1 : k0_pay3 (k0_pay246 e w a g bt) (ix3 0 r l) = k0_pay242 e w a g bt (ix2 r (col 1 l)) := by
  pointwise [k0_pay246, k0_pay3]; rfl
/-- What another step stores for batch 1: the old block and its columns of the contribution, added. -/
theorem add1 : k0_pay4 (k0_pay246 e w a g bt) old (ix3 0 r l) = FloatOps.addf (old (ix3 0 r l)) (k0_pay242 e w a g bt (ix2 r (col 1 l))) := by
  pointwise [k0_pay246, k0_pay4]; rfl
/-- What a first step stores for batch 2: its columns of the contribution. -/
theorem store2 : k0_pay6 con (ix3 0 r l) = con (ix2 r (col 2 l)) := by
  pointwise [k0_pay6, k0_pay5]; rfl
/-- What another step stores for batch 2: the old block and its columns of the contribution, added. -/
theorem add2 : k0_pay7 con old (ix3 0 r l) = FloatOps.addf (old (ix3 0 r l)) (con (ix2 r (col 2 l))) := by
  pointwise [k0_pay7, k0_pay5]; rfl
/-- What a first step stores for batch 3: its columns of the contribution. -/
theorem store3 : k0_pay9 con (ix3 0 r l) = con (ix2 r (col 3 l)) := by
  pointwise [k0_pay9, k0_pay8]; rfl
/-- What another step stores for batch 3: the old block and its columns of the contribution, added. -/
theorem add3 : k0_pay10 con old (ix3 0 r l) = FloatOps.addf (old (ix3 0 r l)) (con (ix2 r (col 3 l))) := by
  pointwise [k0_pay10, k0_pay8]; rfl

/-- Equal operands, equal contributions. -/
theorem con_congr {w w' : Vec F S1x512x2048 .f32} {a a' : Vec F S1x2048x1024 .f32} {g g' : Vec F S1x8x1024 .f32} {bt bt' : Vec F S512x8 .f32}
    (hw : w = w') (ha : a = a') (hg : g = g') (hb : bt = bt') : k0_pay242 e w a g bt = k0_pay242 e w' a' g' bt' := by
  subst hw ha hg hb; rfl

/-- The trend half's four additions are the seasonal half's. -/
theorem pay250_eq : k0_pay250 e w a g bt old = k0_pay245 e w a g bt old := rfl
/-- The second half of the grid computes by the same text. -/
theorem pay251_eq : k0_pay251 e w a g bt = k0_pay246 e w a g bt := rfl
/-- The same for batch 1, -/
theorem pay12_eq (v : FVec F S512x256 .f32) : k0_pay12 v old = k0_pay4 v old := rfl
/-- batch 2, -/
theorem pay15_eq : k0_pay15 con old = k0_pay7 con old := rfl
/-- and batch 3. -/
theorem pay18_eq : k0_pay18 con old = k0_pay10 con old := rfl

end Payloads

end Cert.KernelIdeal.Hand

end
-- ==== Proof.Prologue.lean ====
/- What the first point's prologue leaves, as plain functions of the arguments: for every batch the moving
   average of its slab and the residual (the two layers of the first scratch buffer), the gate weights of both
   (the two layers of the second), and the mean over the batches of the trend's gate probabilities. The
   kernel's operations on batch 0 name the functions; on the other batches they are the same operations. -/
module

public import proofs.«01_k».proof.Proof.Steps

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-- Batch `b` of the series. -/
def slab (b : Fin 4) (x : Vec F S4x2048x256 .f32) : Vec F S1x2048x256 .f32 := fun y => x (ix3 b (y 1) (y 2))

/-- The moving average of a slab: twelve front rows, the core, twelve back rows, times the named 1/25. -/
def movK (s : Vec F S1x2048x256 .f32) : FVec F S2048x256 .f32 :=
  have x := k0_pay20 s
  have p := k0_pay22 s
  have q := k0_pay24 s
  have u := k0_pay41 x p q
  have v := k0_pay52 x
  k0_pay72 (k0_pay21 s) (k0_pay23 s) (k0_pay26 x p q) (k0_pay28 x p q) (k0_pay30 x p q) (k0_pay32 x p q) (k0_pay34 x p q)
    (k0_pay36 x p q) (k0_pay38 x p q) (k0_pay40 x p q) (k0_pay44 u (k0_pay42 x) k0_pay43) (k0_pay46 x u) (k0_pay47 x u)
    (k0_pay49 x) (k0_pay51 x) (k0_pay53 x) (k0_pay55 x v) (k0_pay57 x v) (k0_pay59 x v) (k0_pay61 x v) (k0_pay63 x v)
    (k0_pay65 x v) (k0_pay67 x v) (k0_pay69 x v) (k0_pay70 x v) (k0_pay71 x) (Scalar.ofBits .f32 0x3F800000#32)

/-- The residual of a slab. -/
def seaK (s : Vec F S1x2048x256 .f32) : FVec F S2048x256 .f32 := subf (k0_pay20 s) (movK s)

/-- The gate's probabilities: the softmax over the experts of the gate's product with a decomposition. -/
abbrev probsK (a : FVec F S2048x256 .f32) (g : Vec F S8x2048 .f32) : FVec F S8x256 .f32 := k0_pay80 a g

/-- The gate weights: the probabilities of the two best experts, zero elsewhere. -/
def gateK (a : FVec F S2048x256 .f32) (g : Vec F S8x2048 .f32) : FVec F S1x8x256 .f32 :=
  k0_pay83 (k0_pay80 a g) (iota .tc S8x256 32 [0] iota_S8x256_d0_w32) (k0_pay81 a g) (k0_pay82 a g)

/-- A decomposition as a piece of the first scratch buffer. -/
abbrev pieceA (a : FVec F S2048x256 .f32) : FVec F S1x2048x256 .f32 := shapeCast S1x2048x256 a shapeCasts_S2048x256_S1x2048x256

/-- The first scratch buffer after the prologue: layer 0 the residuals, layer 1 the moving averages, the
    batches side by side. -/
def bandA (x : Vec F S4x2048x256 .f32) : Vec F S2x2048x1024 .f32 := fun y =>
  have s := slab ⟨(y 2).val / 256, by have h : (y 2).val < 1024 := (y 2).isLt; omega⟩ x
  (if (y 0).val = 0 then seaK s else movK s) (ix2 (y 1) ⟨(y 2).val % 256, Nat.mod_lt _ (by decide)⟩)

/-- The second scratch buffer after the prologue: the gate weights of the residuals, of the moving averages. -/
def bandC (x : Vec F S4x2048x256 .f32) (gs gt : Vec F S8x2048 .f32) : Vec F S2x8x1024 .f32 := fun y =>
  have s := slab ⟨(y 2).val / 256, by have h : (y 2).val < 1024 := (y 2).isLt; omega⟩ x
  (if (y 0).val = 0 then gateK (seaK s) gs else gateK (movK s) gt) (ix3 0 (y 1) ⟨(y 2).val % 256, Nat.mod_lt _ (by decide)⟩)

/-- The second result's window: a quarter of each batch's trend probabilities, added up from zero. -/
def meanK (x : Vec F S4x2048x256 .f32) (gt : Vec F S8x2048 .f32) : FVec F S8x256 .f32 :=
  k0_pay84 (k0_pay84 (k0_pay84 (k0_pay84 k0_pay19 (probsK (movK (slab 0 x)) gt)) (probsK (movK (slab 1 x)) gt))
    (probsK (movK (slab 2 x)) gt)) (probsK (movK (slab 3 x)) gt)

/-- A column's batch. -/
theorem col_div (b : Fin 4) (l : Fin 256) : (⟨(col b l).val / 256, by have h := (col b l).isLt; omega⟩ : Fin 4) = b :=
  Fin.ext (by have := l.isLt; show (256 * b.val + l.val) / 256 = b.val; omega)
/-- A column within its batch. -/
theorem col_mod (b : Fin 4) (l : Fin 256) : (⟨(col b l).val % 256, Nat.mod_lt _ (by decide)⟩ : Fin 256) = l :=
  Fin.ext (by have := l.isLt; show (256 * b.val + l.val) % 256 = l.val; omega)

/-- The first layer of the decompositions: the seasonal parts. -/
theorem bandA_sea (x : Vec F S4x2048x256 .f32) (b : Fin 4) (r : Fin 2048) (l : Fin 256) :
    bandA x (ix3 0 r (col b l)) = seaK (slab b x) (ix2 r l) := by
  show seaK (slab ⟨(col b l).val / 256, _⟩ x) (ix2 r ⟨(col b l).val % 256, _⟩) = _
  rw [col_div, col_mod]
/-- The second layer: the trends. -/
theorem bandA_mov (x : Vec F S4x2048x256 .f32) (b : Fin 4) (r : Fin 2048) (l : Fin 256) :
    bandA x (ix3 1 r (col b l)) = movK (slab b x) (ix2 r l) := by
  show movK (slab ⟨(col b l).val / 256, _⟩ x) (ix2 r ⟨(col b l).val % 256, _⟩) = _
  rw [col_div, col_mod]
/-- The first layer of the weights: the seasonal gate's. -/
theorem bandC_sea (x : Vec F S4x2048x256 .f32) (gs gt : Vec F S8x2048 .f32) (b : Fin 4) (r : Fin 8) (l : Fin 256) :
    bandC x gs gt (ix3 0 r (col b l)) = gateK (seaK (slab b x)) gs (ix3 0 r l) := by
  show gateK (seaK (slab ⟨(col b l).val / 256, _⟩ x)) gs (ix3 0 r ⟨(col b l).val % 256, _⟩) = _
  rw [col_div, col_mod]
/-- The second layer: the trend gate's. -/
theorem bandC_mov (x : Vec F S4x2048x256 .f32) (gs gt : Vec F S8x2048 .f32) (b : Fin 4) (r : Fin 8) (l : Fin 256) :
    bandC x gs gt (ix3 1 r (col b l)) = gateK (movK (slab b x)) gt (ix3 0 r l) := by
  show gateK (movK (slab ⟨(col b l).val / 256, _⟩ x)) gt (ix3 0 r ⟨(col b l).val % 256, _⟩) = _
  rw [col_div, col_mod]

/-- A decomposition's piece read where the decomposition is. -/
theorem pieceA_apply (a : FVec F S2048x256 .f32) (r : Fin 2048) (l : Fin 256) : pieceA a (ix3 0 r l) = a (ix2 r l) := by
  pointwise [pieceA]

/-! ## Eight stores fill a two-layer buffer -/

/-- A piece that agrees with `G` on layer `k`, batch `b`, agrees with it everywhere its rectangle lies. -/
theorem band_agree {n : ℕ} (k : Fin 2) (b : Fin 4) {off : Fin 3 → ℕ} (e : off = ![k.val, 0, 256 * b.val])
    (inb : ∀ a, off a + (⟨3, ![1, n, 256]⟩ : Shape).size a ≤ (⟨3, ![2, n, 1024]⟩ : Shape).size a)
    (w : Vec F ⟨3, ![1, n, 256]⟩ .f32) (G : Vec F ⟨3, ![2, n, 1024]⟩ .f32)
    (h : ∀ (r : Fin n) (l : Fin 256), w (ix3 0 r l) = G (ix3 k r (col b l))) (z : (⟨3, ![1, n, 256]⟩ : Shape).Idx) :
    w z = G ((Rect.unit (s := ⟨3, ![2, n, 1024]⟩) off (⟨3, ![1, n, 256]⟩ : Shape).size inb).emb z) := by
  subst e
  obtain ⟨z0, z1, z2, rfl⟩ : ∃ (z0 : Fin 1) (z1 : Fin n) (z2 : Fin 256), z = ix3 z0 z1 z2 := ⟨z 0, z 1, z 2, eq_ix3 z⟩
  have h0 : z0 = 0 := Subsingleton.elim _ _
  subst h0
  refine (h z1 z2).trans (congrArg G (funext fun a => Fin.ext ?_))
  fin_cases a
  · show k.val = k.val + 1 * 0; omega
  · show z1.val = 0 + 1 * z1.val; omega
  · show 256 * b.val + z2.val = 256 * b.val + 1 * z2.val; omega

/-- The eight pieces of a two-layer buffer, newest first as the prologue stores them. -/
abbrev bandPieces {n : ℕ} (i : ∀ (k : Fin 2) (b : Fin 4), ∀ a, (![k.val, 0, 256 * b.val] : Fin 3 → ℕ) a + (⟨3, ![1, n, 256]⟩ : Shape).size a ≤ (⟨3, ![2, n, 1024]⟩ : Shape).size a)
    (w : Fin 2 → Fin 4 → Vec F ⟨3, ![1, n, 256]⟩ .f32) : List (View.Piece (Elt F) ⟨3, ![2, n, 1024]⟩ .f32) :=
  [⟨Rect.unit _ _ (i 1 3), w 1 3⟩, ⟨Rect.unit _ _ (i 0 3), w 0 3⟩, ⟨Rect.unit _ _ (i 1 2), w 1 2⟩, ⟨Rect.unit _ _ (i 0 2), w 0 2⟩,
   ⟨Rect.unit _ _ (i 1 1), w 1 1⟩, ⟨Rect.unit _ _ (i 0 1), w 0 1⟩, ⟨Rect.unit _ _ (i 1 0), w 1 0⟩, ⟨Rect.unit _ _ (i 0 0), w 0 0⟩]

/-- Eight stores that agree with `G`, two layers by four batches, leave `G`. -/
theorem read_bands {n : ℕ} (m : Memref sig .tc .vmem ⟨3, ![2, n, 1024]⟩ .f32) (f : m.view.ty.Contents (Elt F))
    (i : ∀ (k : Fin 2) (b : Fin 4), ∀ a, (![k.val, 0, 256 * b.val] : Fin 3 → ℕ) a + (⟨3, ![1, n, 256]⟩ : Shape).size a ≤ (⟨3, ![2, n, 1024]⟩ : Shape).size a)
    (w : Fin 2 → Fin 4 → Vec F ⟨3, ![1, n, 256]⟩ .f32) (G : Vec F ⟨3, ![2, n, 1024]⟩ .f32)
    (h : ∀ k b (r : Fin n) (l : Fin 256), w k b (ix3 0 r l) = G (ix3 k r (col b l))) :
    m.view.read (Elt F) (m.view.writes (Elt F) f (bandPieces i w)) = G := by
  funext y
  refine View.read_writes_apply_of_pieces (v := m.view) (f := f) G (bandPieces i w) ?_ y ?_
  · have hp : ∀ k b, ∀ z, w k b z = G ((Rect.unit (s := ⟨3, ![2, n, 1024]⟩) _ _ (i k b)).emb z) :=
      fun k b => band_agree k b rfl (i k b) (w k b) G (h k b)
    simp only [bandPieces, List.forall_mem_cons, List.not_mem_nil, false_imp_iff, implies_true, and_true]
    exact ⟨hp 1 3, hp 0 3, hp 1 2, hp 0 2, hp 1 1, hp 0 1, hp 1 0, hp 0 0⟩
  · have hm : ∀ k b, (⟨Rect.unit (s := ⟨3, ![2, n, 1024]⟩) _ _ (i k b), w k b⟩ : View.Piece (Elt F) ⟨3, ![2, n, 1024]⟩ .f32) ∈ bandPieces i w := by
      intro k b; fin_cases k <;> fin_cases b <;> simp [bandPieces]
    obtain ⟨y0, y1, y2, rfl⟩ : ∃ (y0 : Fin 2) (y1 : Fin n) (y2 : Fin 1024), y = ix3 y0 y1 y2 := ⟨y 0, y 1, y 2, eq_ix3 y⟩
    refine ⟨_, hm y0 ⟨y2.val / 256, by omega⟩, ?_⟩
    rw [Rect.mem_set_unit]
    intro a
    fin_cases a
    · show y0.val ≤ y0.val ∧ y0.val < y0.val + 1; omega
    · show 0 ≤ y1.val ∧ y1.val < 0 + n; omega
    · show 256 * (y2.val / 256) ≤ y2.val ∧ y2.val < 256 * (y2.val / 256) + 256; omega

/-- A load of batch `b` of the series' window. -/
theorem readAt_slab {m : Memref sig .tc .vmem S4x2048x256 .f32} (hm : m.IsWhole) (x : Vec F S4x2048x256 .f32) (b : Fin 4)
    (inb : ∀ a, (![b.val, 0, 0] : Fin 3 → ℕ) a + S1x2048x256.size a ≤ S4x2048x256.size a) :
    View.readAt (Elt F) m.view (Rect.unit (s := S4x2048x256) ![b.val, 0, 0] S1x2048x256.size inb).toLoadRect (hm.unread x) = slab b x := by
  funext y
  rw [hm.readAt_unread]
  refine congrArg x (funext fun a => Fin.ext ?_)
  fin_cases a
  · have h : (y 0).val < 1 := (y 0).isLt
    show b.val + 1 * (y 0).val = b.val; omega
  · show 0 + 1 * (y 1).val = (y 1).val; omega
  · show 0 + 1 * (y 2).val = (y 2).val; omega

/-- A load of the whole of a gate's window. -/
theorem readAt_gate {m : Memref sig .tc .vmem S8x2048 .f32} (hm : m.IsWhole) (g : Vec F S8x2048 .f32)
    (inb : ∀ a, (![0, 0] : Fin 2 → ℕ) a + S8x2048.size a ≤ S8x2048.size a) :
    View.readAt (Elt F) m.view (Rect.unit (s := S8x2048) ![0, 0] S8x2048.size inb).toLoadRect (hm.unread g) = g := by
  funext y
  rw [hm.readAt_unread]
  refine congrArg g (funext fun a => Fin.ext ?_)
  fin_cases a
  · show 0 + 1 * (y 0).val = (y 0).val; omega
  · show 0 + 1 * (y 1).val = (y 1).val; omega

/-- A load of layer 0 out of the stores that filled a two-layer buffer. -/
theorem readCov_layer {n : ℕ} (m : Memref sig .tc .vmem ⟨3, ![2, n, 1024]⟩ .f32) (L : List (View.Piece (Elt F) ⟨3, ![2, n, 1024]⟩ .f32))
    (G : Vec F ⟨3, ![2, n, 1024]⟩ .f32) (hG : ∀ f, m.view.read (Elt F) (m.view.writes (Elt F) f L) = G)
    (inb : ∀ x, (![0, 0, 0] : Fin 3 → ℕ) x + (⟨3, ![1, n, 1024]⟩ : Shape).size x ≤ (⟨3, ![2, n, 1024]⟩ : Shape).size x) :
    m.view.readCov L (Rect.unit (s := ⟨3, ![2, n, 1024]⟩) ![0, 0, 0] (⟨3, ![1, n, 1024]⟩ : Shape).size inb).toLoadRect
      = fun y : (⟨3, ![1, n, 1024]⟩ : Shape).Idx => G (ix3 0 (y 1) (y 2)) := by
  funext y
  refine (congrFun (hG m.view.junk) _).trans (congrArg G (funext fun x => Fin.ext ?_))
  fin_cases x
  · have h : (y 0).val < 1 := (y 0).isLt
    show 0 + 1 * (y 0).val = 0; omega
  · show 0 + 1 * (y 1).val = (y 1).val; omega
  · show 0 + 1 * (y 2).val = (y 2).val; omega

end Cert.KernelIdeal.Hand

end
-- ==== Proof.RunA.lean ====
/- The first point: the prologue fills the scratch buffers and the second result's window, then the point stores its contribution. -/
module

public import proofs.«01_k».proof.Proof.Prologue
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- The first point: the prologue fills the scratch buffers and the second result's window, then the point stores its contribution. -/
theorem runA (c : Dev nD) (i : grid0.Coords)
    (arg3 : Memref sig .tc .vmem S4x2048x256 .f32) (harg3 : arg3.IsWhole)
    (arg4 : Memref sig .tc .vmem S8x2048 .f32) (harg4 : arg4.IsWhole)
    (arg5 : Memref sig .tc .vmem S8x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S1024x8 .f32) (harg8 : arg8.IsWhole)
    (arg9 : Memref sig .tc .vmem S1024x8 .f32) (harg9 : arg9.IsWhole)
    (arg10 : Memref sig .tc .vmem S4x1024x256 .f32) (harg10 : arg10.IsWhole)
    (arg11 : Memref sig .tc .vmem S8x256 .f32) (harg11 : arg11.IsWhole)
    (arg12 : Memref sig .tc .vmem S2x2048x1024 .f32) (harg12 : arg12.IsWhole)
    (arg13 : Memref sig .tc .vmem S2x8x1024 .f32) (harg13 : arg13.IsWhole)
    (hp : Prologue i) (hc : SeaFirst i)
    (x : Vec F S4x2048x256 .f32) (gs gt : Vec F S8x2048 .f32) (w : Vec F S1x512x2048 .f32) (bt : Vec F S1024x8 .f32)
    (o : Vec F S4x1024x256 .f32) (q : Vec F S8x256 .f32) (a : Vec F S2x2048x1024 .f32) (g : Vec F S2x8x1024 .f32) :
    ∀ (E : Set ℕ) (K : PUnit → sProp 𝕄),
      iprop(owns (c : Thread nD τ) arg3 fullShare x ∗ owns (c : Thread nD τ) arg4 fullShare gs ∗ owns (c : Thread nD τ) arg5 fullShare gt ∗ owns (c : Thread nD τ) arg6 fullShare w ∗ owns (c : Thread nD τ) arg8 fullShare bt ∗ owns (c : Thread nD τ) arg10 fullShare o ∗ owns (c : Thread nD τ) arg11 fullShare q ∗ owns (c : Thread nD τ) arg12 fullShare a ∗ owns (c : Thread nD τ) arg13 fullShare g
          ∗ (iprop(owns (c : Thread nD τ) arg3 fullShare x ∗ owns (c : Thread nD τ) arg4 fullShare gs ∗ owns (c : Thread nD τ) arg5 fullShare gt ∗ owns (c : Thread nD τ) arg6 fullShare w ∗ owns (c : Thread nD τ) arg8 fullShare bt ∗
              owns (c : Thread nD τ) arg10 fullShare (step (fun _ q => q) (half i).val (contribution (i 1).val w (layerA 0 (bandA x)) (layerC 0 (bandC x gs gt)) (halfRows (half i) bt)) o) ∗ owns (c : Thread nD τ) arg11 fullShare (meanK x gt) ∗ owns (c : Thread nD τ) arg12 fullShare (bandA x) ∗ owns (c : Thread nD τ) arg13 fullShare (bandC x gs gt)) -∗ K ⟨⟩))
        ⊢ wp frame (wpE (defs₀ (F := F)) Variants.none c none) E
            (cc0__fused_kernel i arg3 harg3 arg4 harg4 arg5 harg5 arg6 harg6 arg7 harg7 arg8 harg8 arg9 harg9 arg10 harg10 arg11 harg11 arg12 harg12 arg13 harg13) K := by
  intro E K
  obtain ⟨h2, h3, h4, h5, h6, h7, h8, h9, h10, h11⟩ := hc
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%fX, %hX, HX⟩, ⟨%fS, %hS, HS⟩, ⟨%fT, %hT, HT⟩, ⟨%fW, %hW, HW⟩, ⟨%fB, %hB, HB⟩, ⟨%fO, %hO, HO⟩, ⟨%fP, %hP, HP⟩, ⟨%fA, %hA, HA⟩, ⟨%fC, %hC, HC⟩, Hk⟩
  obtain rfl := harg3.eq_unread hX; obtain rfl := harg4.eq_unread hS; obtain rfl := harg5.eq_unread hT
  obtain rfl := harg6.eq_unread hW; obtain rfl := harg8.eq_unread hB; obtain rfl := harg10.eq_unread hO; obtain rfl := harg11.eq_unread hP
  obtain rfl := harg12.eq_unread hA; obtain rfl := harg13.eq_unread hC
  sl_exec (disch := first | sl_exact hp | sl_exact h2 | sl_exact h3 | sl_exact h4 | sl_exact h5 | sl_exact h6 | sl_exact h7 | sl_exact h8 | sl_exact h9 | sl_exact h10 | sl_exact h11)
  sl_step
  have iX : ∀ (b : Fin 4) a, (![b.val, 0, 0] : Fin 3 → ℕ) a + S1x2048x256.size a ≤ S4x2048x256.size a := by decide
  have iA : ∀ (k : Fin 2) (b : Fin 4) a, (![k.val, 0, 256 * b.val] : Fin 3 → ℕ) a + S1x2048x256.size a ≤ S2x2048x1024.size a := by decide
  have iC : ∀ (k : Fin 2) (b : Fin 4) a, (![k.val, 0, 256 * b.val] : Fin 3 → ℕ) a + S1x8x256.size a ≤ S2x8x1024.size a := by decide
  obtain ⟨s, hs⟩ : ∃ s : Fin 4 → Vec F S1x2048x256 .f32, s = fun b =>
      View.readAt (Elt F) arg3.view (Rect.unit (s := S4x2048x256) ![b.val, 0, 0] S1x2048x256.size (iX b)).toLoadRect (harg3.unread x) := ⟨_, rfl⟩
  obtain ⟨us, hus⟩ : ∃ u : Vec F S8x2048 .f32, u =
      View.readAt (Elt F) arg4.view (Rect.unit (s := S8x2048) ![0, 0] S8x2048.size inb_S8x2048_S8x2048_0_0).toLoadRect (harg4.unread gs) := ⟨_, rfl⟩
  obtain ⟨ut, hut⟩ : ∃ u : Vec F S8x2048 .f32, u =
      View.readAt (Elt F) arg5.view (Rect.unit (s := S8x2048) ![0, 0] S8x2048.size inb_S8x2048_S8x2048_0_0).toLoadRect (harg5.unread gt) := ⟨_, rfl⟩
  have hLA : runA.sl.HA_8 c arg3 harg3 x = bandPieces (F := F) iA fun k b => ![pieceA (seaK (s b)), pieceA (movK (s b))] k := by
    subst hs; rfl
  have hLC : runA.sl.HC_8 c arg3 harg3 arg4 harg4 arg5 harg5 x gs gt
      = bandPieces (F := F) iC fun k b => ![gateK (seaK (s b)) us, gateK (movK (s b)) ut] k := by
    subst hs hus hut; rfl
  have hPM : k0_pay2 (runA.sl.r_107 c arg3 harg3 arg5 harg5 x gt) (runA.sl.r_136 c arg3 harg3 arg5 harg5 x gt)
      = k0_pay84 (k0_pay84 (k0_pay84 (k0_pay84 k0_pay19 (probsK (movK (s 0)) ut)) (probsK (movK (s 1)) ut)) (probsK (movK (s 2)) ut)) (probsK (movK (s 3)) ut) := by
    subst hs hut; rfl
  have hsl : ∀ b, s b = slab b x := fun b => by subst hs; exact readAt_slab harg3 x b (iX b)
  have hgs : us = gs := hus.trans (readAt_gate harg4 gs _)
  have hgt : ut = gt := hut.trans (readAt_gate harg5 gt _)
  subst hgs hgt
  have hGA : ∀ f, arg12.view.read (Elt F) (arg12.view.writes (Elt F) f (runA.sl.HA_8 c arg3 harg3 x)) = bandA x := by
    intro f
    rw [hLA]
    refine read_bands arg12 f iA _ (bandA x) fun k b r l => ?_
    fin_cases k
    · exact (pieceA_apply _ r l).trans ((congrArg (fun s => seaK s (ix2 r l)) (hsl b)).trans (bandA_sea x b r l).symm)
    · exact (pieceA_apply _ r l).trans ((congrArg (fun s => movK s (ix2 r l)) (hsl b)).trans (bandA_mov x b r l).symm)
  have hGC : ∀ f, arg13.view.read (Elt F) (arg13.view.writes (Elt F) f (runA.sl.HC_8 c arg3 harg3 arg4 harg4 arg5 harg5 x us ut)) = bandC x us ut := by
    intro f
    rw [hLC]
    refine read_bands arg13 f iC _ (bandC x us ut) fun k b r l => ?_
    fin_cases k
    · exact (congrArg (fun s => gateK (seaK s) us (ix3 0 r l)) (hsl b)).trans (bandC_sea x us ut b r l).symm
    · exact (congrArg (fun s => gateK (movK s) ut (ix3 0 r l)) (hsl b)).trans (bandC_mov x us ut b r l).symm
  have hcon := con_congr (BitVec.ofNat 32 (i 1).val) (readAt_block harg6 w (inb_S1x512x2048_S1x512x2048_0_0_0))
    (readCov_layer arg12 _ (bandA x) hGA (inb_S2x2048x1024_S1x2048x1024_0_0_0)) (readCov_layer arg13 _ (bandC x us ut) hGC (inb_S2x8x1024_S1x8x1024_0_0_0))
    (readAt_halfRows harg8 bt (half i) (k0_off1_eq i) (k0_off1_inb i h2))
  iapply Hk
  isplitl [HX]
  · iexists _; isplitr
    · ipureintro; exact harg3.read_unread _
    · iexact HX
  isplitl [HS]
  · iexists _; isplitr
    · ipureintro; exact harg4.read_unread _
    · iexact HS
  isplitl [HT]
  · iexists _; isplitr
    · ipureintro; exact harg5.read_unread _
    · iexact HT
  isplitl [HW]
  · iexists _; isplitr
    · ipureintro; exact harg6.read_unread _
    · iexact HW
  isplitl [HB]
  · iexists _; isplitr
    · ipureintro; exact harg8.read_unread _
    · iexact HB
  isplitl [HO]
  · iexists _; isplitr
    swap
    · iexact HO
    · ipureintro
      refine read_four (m := arg10) (harg10.unread o) (half i) (k0_off2_eq i) (k0_off4_eq i) (k0_off6_eq i) (k0_off8_eq i) _ _ _ _ _ _ _ _
        (step (fun _ q => q) (half i).val (contribution (i 1).val w (layerA 0 (bandA x)) (layerC 0 (bandC x us ut)) (halfRows (half i) bt)) o) ?_ ?_ ?_ ?_ ?_
      · exact fun r l => (store0 _ _ _ _ _ _ _).trans ((congrFun hcon _).trans (step_at (fun _ q => q) _ _ o 0 r l).symm)
      · exact fun r l => (store1 _ _ _ _ _ _ _).trans ((congrFun hcon _).trans (step_at (fun _ q => q) _ _ o 1 r l).symm)
      · exact fun r l => (store2 _ _ _).trans ((congrFun hcon _).trans (step_at (fun _ q => q) _ _ o 2 r l).symm)
      · exact fun r l => (store3 _ _ _).trans ((congrFun hcon _).trans (step_at (fun _ q => q) _ _ o 3 r l).symm)
      · intro y hy
        rw [harg10.read_unread, step_off _ _ _ _ _ hy]
  isplitl [HP]
  · iexists _; isplitr
    swap
    · iexact HP
    · ipureintro
      refine (View.read_writes_full _ _ _ _ _).trans (hPM.trans ?_)
      simp only [hsl]; rfl
  isplitl [HA]
  · iexists _; isplitr
    swap
    · iexact HA
    · ipureintro; exact hGA _
  · iexists _; isplitr
    swap
    · iexact HC
    · ipureintro; exact hGC _

end Cert.KernelIdeal.Hand

end
-- ==== Proof.RunB.lean ====
/- The second point of the seasonal half stores its contribution over what the result window held. -/
module

public import proofs.«01_k».proof.Proof.Steps

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- The second point of the seasonal half stores its contribution over what the result window held. -/
theorem runB (c : Dev nD) (i : grid0.Coords)
    (arg3 : Memref sig .tc .vmem S4x2048x256 .f32) (harg3 : arg3.IsWhole)
    (arg4 : Memref sig .tc .vmem S8x2048 .f32) (harg4 : arg4.IsWhole)
    (arg5 : Memref sig .tc .vmem S8x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S1024x8 .f32) (harg8 : arg8.IsWhole)
    (arg9 : Memref sig .tc .vmem S1024x8 .f32) (harg9 : arg9.IsWhole)
    (arg10 : Memref sig .tc .vmem S4x1024x256 .f32) (harg10 : arg10.IsWhole)
    (arg11 : Memref sig .tc .vmem S8x256 .f32) (harg11 : arg11.IsWhole)
    (arg12 : Memref sig .tc .vmem S2x2048x1024 .f32) (harg12 : arg12.IsWhole)
    (arg13 : Memref sig .tc .vmem S2x8x1024 .f32) (harg13 : arg13.IsWhole)
    (hp : ¬ Prologue i) (hc : SeaFirst i)
    (w : Vec F S1x512x2048 .f32) (bt : Vec F S1024x8 .f32) (a : Vec F S2x2048x1024 .f32) (g : Vec F S2x8x1024 .f32) (o : Vec F S4x1024x256 .f32) :
    ∀ (E : Set ℕ) (K : PUnit → sProp 𝕄),
      iprop(owns (c : Thread nD τ) arg6 fullShare w ∗ owns (c : Thread nD τ) arg8 fullShare bt ∗ owns (c : Thread nD τ) arg10 fullShare o ∗ owns (c : Thread nD τ) arg12 fullShare a ∗ owns (c : Thread nD τ) arg13 fullShare g
          ∗ (iprop(owns (c : Thread nD τ) arg6 fullShare w ∗ owns (c : Thread nD τ) arg8 fullShare bt ∗ owns (c : Thread nD τ) arg10 fullShare
              (step (fun _ q => q) (half i).val (contribution (i 1).val w (layerA 0 a) (layerC 0 g) (halfRows (half i) bt)) o) ∗ owns (c : Thread nD τ) arg12 fullShare a ∗ owns (c : Thread nD τ) arg13 fullShare g) -∗ K ⟨⟩))
        ⊢ wp frame (wpE (defs₀ (F := F)) Variants.none c none) E
            (cc0__fused_kernel i arg3 harg3 arg4 harg4 arg5 harg5 arg6 harg6 arg7 harg7 arg8 harg8 arg9 harg9 arg10 harg10 arg11 harg11 arg12 harg12 arg13 harg13) K := by
  intro E K
  obtain ⟨h2, h3, h4, h5, h6, h7, h8, h9, h10, h11⟩ := hc
  simp only [cc0__fused_kernel_eq_skeleton]; unfold cc0__fused_kernel_skel
  simp only [k0_part26_eq_skeleton]
  unfold owns
  iintro ⟨⟨%fW, %hW, HW⟩, ⟨%fB, %hB, HB⟩, ⟨%fO, %hO, HO⟩, ⟨%fA, %hA, HA⟩, ⟨%fC, %hC, HC⟩, Hk⟩
  obtain rfl := harg6.eq_unread hW; obtain rfl := harg8.eq_unread hB; obtain rfl := harg10.eq_unread hO
  obtain rfl := harg12.eq_unread hA; obtain rfl := harg13.eq_unread hC
  sl_exec (disch := first | sl_exact hp | sl_exact h2 | sl_exact h3 | sl_exact h4 | sl_exact h5 | sl_exact h6 | sl_exact h7 | sl_exact h8 | sl_exact h9 | sl_exact h10 | sl_exact h11)
  sl_step
  have hcon := con_congr (BitVec.ofNat 32 (i 1).val) (readAt_block harg6 w (inb_S1x512x2048_S1x512x2048_0_0_0))
    (readAt_layerA harg12 a 0 (inb_S2x2048x1024_S1x2048x1024_0_0_0)) (readAt_layerC harg13 g 0 (inb_S2x8x1024_S1x8x1024_0_0_0))
    (readAt_halfRows harg8 bt (half i) (k0_off1_eq i) (k0_off1_inb i h2))
  iapply Hk
  isplitl [HW]
  · iexists _; isplitr
    · ipureintro; exact harg6.read_unread _
    · iexact HW
  isplitl [HB]
  · iexists _; isplitr
    · ipureintro; exact harg8.read_unread _
    · iexact HB
  isplitl [HO]
  · iexists _; isplitr
    swap
    · iexact HO
    · ipureintro
      refine read_four (m := arg10) (harg10.unread o) (half i) (k0_off2_eq i) (k0_off4_eq i) (k0_off6_eq i) (k0_off8_eq i) _ _ _ _ _ _ _ _
        (step (fun _ q => q) (half i).val (contribution (i 1).val w (layerA 0 a) (layerC 0 g) (halfRows (half i) bt)) o) ?_ ?_ ?_ ?_ ?_
      · exact fun r l => (store0 _ _ _ _ _ _ _).trans ((congrFun hcon _).trans (step_at (fun _ q => q) _ _ o 0 r l).symm)
      · exact fun r l => (store1 _ _ _ _ _ _ _).trans ((congrFun hcon _).trans (step_at (fun _ q => q) _ _ o 1 r l).symm)
      · exact fun r l => (store2 _ _ _).trans ((congrFun hcon _).trans (step_at (fun _ q => q) _ _ o 2 r l).symm)
      · exact fun r l => (store3 _ _ _).trans ((congrFun hcon _).trans (step_at (fun _ q => q) _ _ o 3 r l).symm)
      · intro y hy; rw [step_off _ _ _ _ _ hy, harg10.read_unread]
  isplitl [HA]
  · iexists _; isplitr
    · ipureintro; exact harg12.read_unread _
    · iexact HA
  · iexists _; isplitr
    · ipureintro; exact harg13.read_unread _
    · iexact HC

end Cert.KernelIdeal.Hand

end
-- ==== Proof.RunC.lean ====
/- A point of the seasonal half after the first two adds its contribution to what the result window held. -/
module

public import proofs.«01_k».proof.Proof.Steps

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- A point of the seasonal half after the first two adds its contribution to what the result window held. -/
theorem runC (c : Dev nD) (i : grid0.Coords)
    (arg3 : Memref sig .tc .vmem S4x2048x256 .f32) (harg3 : arg3.IsWhole)
    (arg4 : Memref sig .tc .vmem S8x2048 .f32) (harg4 : arg4.IsWhole)
    (arg5 : Memref sig .tc .vmem S8x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S1024x8 .f32) (harg8 : arg8.IsWhole)
    (arg9 : Memref sig .tc .vmem S1024x8 .f32) (harg9 : arg9.IsWhole)
    (arg10 : Memref sig .tc .vmem S4x1024x256 .f32) (harg10 : arg10.IsWhole)
    (arg11 : Memref sig .tc .vmem S8x256 .f32) (harg11 : arg11.IsWhole)
    (arg12 : Memref sig .tc .vmem S2x2048x1024 .f32) (harg12 : arg12.IsWhole)
    (arg13 : Memref sig .tc .vmem S2x8x1024 .f32) (harg13 : arg13.IsWhole)
    (hp : ¬ Prologue i) (hc : SeaAdd i)
    (w : Vec F S1x512x2048 .f32) (bt : Vec F S1024x8 .f32) (a : Vec F S2x2048x1024 .f32) (g : Vec F S2x8x1024 .f32) (o : Vec F S4x1024x256 .f32) :
    ∀ (E : Set ℕ) (K : PUnit → sProp 𝕄),
      iprop(owns (c : Thread nD τ) arg6 fullShare w ∗ owns (c : Thread nD τ) arg8 fullShare bt ∗ owns (c : Thread nD τ) arg10 fullShare o ∗ owns (c : Thread nD τ) arg12 fullShare a ∗ owns (c : Thread nD τ) arg13 fullShare g
          ∗ (iprop(owns (c : Thread nD τ) arg6 fullShare w ∗ owns (c : Thread nD τ) arg8 fullShare bt ∗ owns (c : Thread nD τ) arg10 fullShare
              (step FloatOps.addf (half i).val (contribution (i 1).val w (layerA 0 a) (layerC 0 g) (halfRows (half i) bt)) o) ∗ owns (c : Thread nD τ) arg12 fullShare a ∗ owns (c : Thread nD τ) arg13 fullShare g) -∗ K ⟨⟩))
        ⊢ wp frame (wpE (defs₀ (F := F)) Variants.none c none) E
            (cc0__fused_kernel i arg3 harg3 arg4 harg4 arg5 harg5 arg6 harg6 arg7 harg7 arg8 harg8 arg9 harg9 arg10 harg10 arg11 harg11 arg12 harg12 arg13 harg13) K := by
  intro E K
  obtain ⟨h2, h3, h4, h5, h6, h7, h8, h9, h10, h11⟩ := hc
  simp only [cc0__fused_kernel_eq_skeleton]; unfold cc0__fused_kernel_skel
  simp only [k0_part26_eq_skeleton]
  unfold owns
  iintro ⟨⟨%fW, %hW, HW⟩, ⟨%fB, %hB, HB⟩, ⟨%fO, %hO, HO⟩, ⟨%fA, %hA, HA⟩, ⟨%fC, %hC, HC⟩, Hk⟩
  obtain rfl := harg6.eq_unread hW; obtain rfl := harg8.eq_unread hB; obtain rfl := harg10.eq_unread hO
  obtain rfl := harg12.eq_unread hA; obtain rfl := harg13.eq_unread hC
  sl_exec (disch := first | sl_exact hp | sl_exact h2 | sl_exact h3 | sl_exact h4 | sl_exact h5 | sl_exact h6 | sl_exact h7 | sl_exact h8 | sl_exact h9 | sl_exact h10 | sl_exact h11)
  sl_step
  have hcon := con_congr (BitVec.ofNat 32 (i 1).val) (readAt_block harg6 w (inb_S1x512x2048_S1x512x2048_0_0_0))
    (readAt_layerA harg12 a 0 (inb_S2x2048x1024_S1x2048x1024_0_0_0)) (readAt_layerC harg13 g 0 (inb_S2x8x1024_S1x8x1024_0_0_0))
    (readAt_halfRows harg8 bt (half i) (k0_off1_eq i) (k0_off1_inb i h2))
  iapply Hk
  isplitl [HW]
  · iexists _; isplitr
    · ipureintro; exact harg6.read_unread _
    · iexact HW
  isplitl [HB]
  · iexists _; isplitr
    · ipureintro; exact harg8.read_unread _
    · iexact HB
  isplitl [HO]
  · iexists _; isplitr
    swap
    · iexact HO
    · ipureintro
      refine read_four (m := arg10) (harg10.unread o) (half i) (k0_off3_eq i) (k0_off5_eq i) (k0_off7_eq i) (k0_off9_eq i) _ _ _ _ _ _ _ _
        (step FloatOps.addf (half i).val (contribution (i 1).val w (layerA 0 a) (layerC 0 g) (halfRows (half i) bt)) o) ?_ ?_ ?_ ?_ ?_
      · exact fun r l => (add0 _ _ _ _ _ _ _ _).trans ((congrArg₂ FloatOps.addf (readAt_half harg10 o (half i) 0 (k0_off3_eq i) _ r l) (congrFun hcon _)).trans (step_at _ _ _ _ 0 r l).symm)
      · exact fun r l => (add1 _ _ _ _ _ _ _ _).trans ((congrArg₂ FloatOps.addf (readAt_half harg10 o (half i) 1 (k0_off5_eq i) _ r l) (congrFun hcon _)).trans (step_at _ _ _ _ 1 r l).symm)
      · exact fun r l => (add2 _ _ _ _).trans ((congrArg₂ FloatOps.addf (readAt_half harg10 o (half i) 2 (k0_off7_eq i) _ r l) (congrFun hcon _)).trans (step_at _ _ _ _ 2 r l).symm)
      · exact fun r l => (add3 _ _ _ _).trans ((congrArg₂ FloatOps.addf (readAt_half harg10 o (half i) 3 (k0_off9_eq i) _ r l) (congrFun hcon _)).trans (step_at _ _ _ _ 3 r l).symm)
      · intro y hy; rw [step_off _ _ _ _ _ hy, harg10.read_unread]
  isplitl [HA]
  · iexists _; isplitr
    · ipureintro; exact harg12.read_unread _
    · iexact HA
  · iexists _; isplitr
    · ipureintro; exact harg13.read_unread _
    · iexact HC

end Cert.KernelIdeal.Hand

end
-- ==== Proof.RunD.lean ====
/- A point of the trend half adds its contribution to what the result window held. -/
module

public import proofs.«01_k».proof.Proof.Steps

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- A point of the trend half adds its contribution to what the result window held. -/
theorem runD (c : Dev nD) (i : grid0.Coords)
    (arg3 : Memref sig .tc .vmem S4x2048x256 .f32) (harg3 : arg3.IsWhole)
    (arg4 : Memref sig .tc .vmem S8x2048 .f32) (harg4 : arg4.IsWhole)
    (arg5 : Memref sig .tc .vmem S8x2048 .f32) (harg5 : arg5.IsWhole)
    (arg6 : Memref sig .tc .vmem S1x512x2048 .f32) (harg6 : arg6.IsWhole)
    (arg7 : Memref sig .tc .vmem S1x512x2048 .f32) (harg7 : arg7.IsWhole)
    (arg8 : Memref sig .tc .vmem S1024x8 .f32) (harg8 : arg8.IsWhole)
    (arg9 : Memref sig .tc .vmem S1024x8 .f32) (harg9 : arg9.IsWhole)
    (arg10 : Memref sig .tc .vmem S4x1024x256 .f32) (harg10 : arg10.IsWhole)
    (arg11 : Memref sig .tc .vmem S8x256 .f32) (harg11 : arg11.IsWhole)
    (arg12 : Memref sig .tc .vmem S2x2048x1024 .f32) (harg12 : arg12.IsWhole)
    (arg13 : Memref sig .tc .vmem S2x8x1024 .f32) (harg13 : arg13.IsWhole)
    (hp : ¬ Prologue i) (hc : TrendAdd i)
    (w : Vec F S1x512x2048 .f32) (bt : Vec F S1024x8 .f32) (a : Vec F S2x2048x1024 .f32) (g : Vec F S2x8x1024 .f32) (o : Vec F S4x1024x256 .f32) :
    ∀ (E : Set ℕ) (K : PUnit → sProp 𝕄),
      iprop(owns (c : Thread nD τ) arg7 fullShare w ∗ owns (c : Thread nD τ) arg9 fullShare bt ∗ owns (c : Thread nD τ) arg10 fullShare o ∗ owns (c : Thread nD τ) arg12 fullShare a ∗ owns (c : Thread nD τ) arg13 fullShare g
          ∗ (iprop(owns (c : Thread nD τ) arg7 fullShare w ∗ owns (c : Thread nD τ) arg9 fullShare bt ∗ owns (c : Thread nD τ) arg10 fullShare
              (step FloatOps.addf (half i).val (contribution (i 1).val w (layerA 1 a) (layerC 1 g) (halfRows (half i) bt)) o) ∗ owns (c : Thread nD τ) arg12 fullShare a ∗ owns (c : Thread nD τ) arg13 fullShare g) -∗ K ⟨⟩))
        ⊢ wp frame (wpE (defs₀ (F := F)) Variants.none c none) E
            (cc0__fused_kernel i arg3 harg3 arg4 harg4 arg5 harg5 arg6 harg6 arg7 harg7 arg8 harg8 arg9 harg9 arg10 harg10 arg11 harg11 arg12 harg12 arg13 harg13) K := by
  intro E K
  obtain ⟨h2, h11, h12, h13, h14, h15, h16, h17, h18, h19⟩ := hc
  simp only [cc0__fused_kernel_eq_skeleton]; unfold cc0__fused_kernel_skel
  simp only [k0_part27_eq_skeleton]
  unfold owns
  iintro ⟨⟨%fW, %hW, HW⟩, ⟨%fB, %hB, HB⟩, ⟨%fO, %hO, HO⟩, ⟨%fA, %hA, HA⟩, ⟨%fC, %hC, HC⟩, Hk⟩
  obtain rfl := harg7.eq_unread hW; obtain rfl := harg9.eq_unread hB; obtain rfl := harg10.eq_unread hO
  obtain rfl := harg12.eq_unread hA; obtain rfl := harg13.eq_unread hC
  sl_exec (disch := first | sl_exact hp | sl_exact h2 | sl_exact h11 | sl_exact h12 | sl_exact h13 | sl_exact h14 | sl_exact h15 | sl_exact h16 | sl_exact h17 | sl_exact h18 | sl_exact h19)
  sl_step
  have hcon := con_congr (BitVec.ofNat 32 (i 1).val) (readAt_block harg7 w (inb_S1x512x2048_S1x512x2048_0_0_0))
    (readAt_layerA harg12 a 1 (inb_S2x2048x1024_S1x2048x1024_1_0_0)) (readAt_layerC harg13 g 1 (inb_S2x8x1024_S1x8x1024_1_0_0))
    (readAt_halfRows harg9 bt (half i) (k0_off10_eq i) (k0_off10_inb i h11))
  iapply Hk
  isplitl [HW]
  · iexists _; isplitr
    · ipureintro; exact harg7.read_unread _
    · iexact HW
  isplitl [HB]
  · iexists _; isplitr
    · ipureintro; exact harg9.read_unread _
    · iexact HB
  isplitl [HO]
  · iexists _; isplitr
    swap
    · iexact HO
    · ipureintro
      refine read_four (m := arg10) (harg10.unread o) (half i) (k0_off12_eq i) (k0_off14_eq i) (k0_off16_eq i) (k0_off18_eq i) _ _ _ _ _ _ _ _
        (step FloatOps.addf (half i).val (contribution (i 1).val w (layerA 1 a) (layerC 1 g) (halfRows (half i) bt)) o) ?_ ?_ ?_ ?_ ?_
      · exact fun r l => (add0 _ _ _ _ _ _ _ _).trans ((congrArg₂ FloatOps.addf (readAt_half harg10 o (half i) 0 (k0_off12_eq i) _ r l) (congrFun hcon _)).trans (step_at _ _ _ _ 0 r l).symm)
      · exact fun r l => (add1 _ _ _ _ _ _ _ _).trans ((congrArg₂ FloatOps.addf (readAt_half harg10 o (half i) 1 (k0_off14_eq i) _ r l) (congrFun hcon _)).trans (step_at _ _ _ _ 1 r l).symm)
      · exact fun r l => (add2 _ _ _ _).trans ((congrArg₂ FloatOps.addf (readAt_half harg10 o (half i) 2 (k0_off16_eq i) _ r l) (congrFun hcon _)).trans (step_at _ _ _ _ 2 r l).symm)
      · exact fun r l => (add3 _ _ _ _).trans ((congrArg₂ FloatOps.addf (readAt_half harg10 o (half i) 3 (k0_off18_eq i) _ r l) (congrFun hcon _)).trans (step_at _ _ _ _ 3 r l).symm)
      · intro y hy; rw [step_off _ _ _ _ _ hy, harg10.read_unread]
  isplitl [HA]
  · iexists _; isplitr
    · ipureintro; exact harg12.read_unread _
    · iexact HA
  · iexists _; isplitr
    · ipureintro; exact harg13.read_unread _
    · iexact HC

end Cert.KernelIdeal.Hand

end
-- ==== Proof.Body.lean ====
/- The body obligation of the launch: what the windows and the scratch buffers hold at each grid point. The first
   result's window is described half by half: half `p` of its output steps is first written at point `p`, and after
   that holds the sum so far of the contributions of the points working on it. -/
module

public import proofs.«01_k».proof.Proof.RunA
public import proofs.«01_k».proof.Proof.RunB
public import proofs.«01_k».proof.Proof.RunC
public import proofs.«01_k».proof.Proof.RunD
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## What the windows hold -/

/-- The first grid point. -/
abbrev pt0 : Fin cfg0.N := ⟨0, by decide⟩

/-- The series and the two gate matrices as the launch stages them. -/
abbrev xIn (c : Dev nD) : Vec F S4x2048x256 .f32 := iblk m c 0 pt0
/-- The seasonal gate matrix that every step reads. -/
abbrev gsIn (c : Dev nD) : Vec F S8x2048 .f32 := iblk m c 1 pt0
/-- The trend gate matrix that every step reads. -/
abbrev gtIn (c : Dev nD) : Vec F S8x2048 .f32 := iblk m c 2 pt0

/-- Where each point works: its half of the output steps, and its expert. -/
theorem half_eq : ∀ t : Fin cfg0.N, (half (grid0.coords t)).val = t.val % 2 :=
  (by decide +kernel : ∀ t : Fin grid0.N, (half (grid0.coords t)).val = t.val % 2)
/-- A step's expert. -/
theorem expert_eq : ∀ t : Fin cfg0.N, ((grid0.coords t) 1).val = t.val / 2 % 8 :=
  (by decide +kernel : ∀ t : Fin grid0.N, ((grid0.coords t) 1).val = t.val / 2 % 8)

/-- What point `t` contributes: of the seasonal part below point 16, of the trend part from there on. -/
def con (c : Dev nD) (t : Fin cfg0.N) : FVec F S512x1024 .f32 :=
  if t.val < 16 then
    contribution ((grid0.coords t) 1).val (iblk m c 3 t) (layerA 0 (bandA (xIn m c))) (layerC 0 (bandC (xIn m c) (gsIn m c) (gtIn m c)))
      (halfRows (half (grid0.coords t)) (iblk m c 5 t))
  else
    contribution ((grid0.coords t) 1).val (iblk m c 4 t) (layerA 1 (bandA (xIn m c))) (layerC 1 (bandC (xIn m c) (gsIn m c) (gtIn m c)))
      (halfRows (half (grid0.coords t)) (iblk m c 6 t))

/-- The point of half `p` in round `k`. -/
def pt (p k : ℕ) : Fin cfg0.N := ⟨(2 * k + p) % 32, lt_of_lt_of_eq (Nat.mod_lt _ (by decide)) (show 32 = cfg0.N from N_0.symm)⟩

/-- Half `p`'s sum after round `k`. -/
def acc (c : Dev nD) (p : ℕ) : ℕ → FVec F S512x1024 .f32
  | 0 => con m c (pt p 0)
  | k + 1 => fun y => FloatOps.addf (acc c p k y) (con m c (pt p (k + 1)) y)

/-- What the first result's window holds after point `n`, on the halves written so far. -/
def Held7 (c : Dev nD) (n : ℕ) (X : Vec F S4x1024x256 .f32) : Prop :=
  ∀ y, (y 1).val / 512 ≤ n →
    X y = acc m c ((y 1).val / 512) ((n - (y 1).val / 512) / 2) (ix2 ⟨(y 1).val % 512, Nat.mod_lt _ (by decide)⟩ (col (y 0) (y 2)))

/-- The point `t` first stores (`t < 2`): nothing is asked of what was held, beyond the half written before. -/
theorem held_set (c : Dev nD) (t : Fin cfg0.N) (h2 : t.val < 2) (o : Vec F S4x1024x256 .f32) (ho : t.val = 1 → Held7 m c 0 o) :
    Held7 m c t.val (step (fun _ q => q) (half (grid0.coords t)).val (con m c t) o) := by
  intro y hy
  rw [half_eq]
  by_cases hp : (y 1).val / 512 = t.val % 2
  · rw [step, if_pos hp]
    have e1 : (y 1).val / 512 = t.val := by omega
    rw [e1, Nat.sub_self, Nat.zero_div]
    have e2 : pt t.val 0 = t := Fin.ext (by show (2 * 0 + t.val) % 32 = t.val; omega)
    show _ = con m c (pt t.val 0) _
    rw [e2]
  · have ht : t.val = 1 := by omega
    rw [step_off _ _ _ _ _ hp, ho ht y (by omega)]
    have e1 : (y 1).val / 512 = 0 := by omega
    rw [e1, ht]

/-- The point `t` adds (`2 ≤ t`). -/
theorem held_add (c : Dev nD) (t : Fin cfg0.N) (h2 : 2 ≤ t.val) (o : Vec F S4x1024x256 .f32) (ho : Held7 m c (t.val - 1) o) :
    Held7 m c t.val (step FloatOps.addf (half (grid0.coords t)).val (con m c t) o) := by
  intro y hy
  have hN : t.val < 32 := lt_of_lt_of_eq t.isLt (show cfg0.N = 32 from N_0)
  have hy1 : (y 1).val < 1024 := (y 1).isLt
  have h := ho y (by omega)
  rw [half_eq]
  by_cases hp : (y 1).val / 512 = t.val % 2
  · rw [step, if_pos hp, h]
    have e1 : (t.val - (y 1).val / 512) / 2 = (t.val - 1 - (y 1).val / 512) / 2 + 1 := by omega
    rw [e1]
    have e2 : pt ((y 1).val / 512) ((t.val - 1 - (y 1).val / 512) / 2 + 1) = t := Fin.ext (by
      show (2 * ((t.val - 1 - (y 1).val / 512) / 2 + 1) + (y 1).val / 512) % 32 = t.val; omega)
    show _ = FloatOps.addf _ (con m c (pt _ _) _)
    rw [e2]
  · rw [step_off _ _ _ _ _ hp, h]
    have e1 : (t.val - 1 - (y 1).val / 512) / 2 = (t.val - (y 1).val / 512) / 2 := by omega
    rw [e1]

/-! ## The proof data -/

/-- The scratch buffers before a point: at some contents before the first, filled by the prologue afterwards. -/
def scratchAt (c : Dev nD) : ℕ → sProp 𝕄
  | 0 => Pipeline.ΦA spec0 c
  | _ + 1 => iprop(iprop(owns (c : Thread nD τ) scA fullShare (bandA (xIn m c)) ∗ owns (c : Thread nD τ) scC fullShare (bandC (xIn m c) (gsIn m c) (gtIn m c))) ∗ (∃ r, prngReg c r))

/-- The proof data: every input window at its block, the results' windows left to the predicates `Rl`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ t := scratchAt m c t.val
  q _ := fullShare
  owed _ := 0

/-- The windows of the results. -/
def isResult : Fin 9 → Bool := fun w => w.val == 7 || w.val == 8

/-- What the results' windows hold after each point. -/
def Rl (c : Dev nD) : (w : Fin cfg0.W) → Fin cfg0.N → ((cfg0.win w).block.Idx → Elt F (cfg0.win w).elt) → Prop
  | ⟨7, _⟩, t, X => Held7 m c t.val X
  | ⟨8, _⟩, _, X => X = meanK (xIn m c) (gtIn m c)
  | _, _, _ => True

/-- The array a window stages is the one the host left. -/
theorem dat_A (c : Dev nD) (w : Fin cfg0.W) : (dat m c).A w = V m c (Pipeline.arrRef spec0 w) := by dsimp only [dat]

/-- A step leaves window 0, which it only reads, at its block. -/
theorem after0 (c : Dev nD) (t : Fin cfg0.N) : (dat m c).after 0 t = iblk m c 0 t := by dsimp only [dat]
/-- A step finds window 0 at its block. -/
theorem before0 (c : Dev nD) (t : Fin cfg0.N) (d) : (dat m c).before 0 t d = iblk m c 0 t :=
  before0_0_of m (dat m c) (dat_A m c 0) (after0 m c) t d
/-- A step leaves window 1, which it only reads, at its block. -/
theorem after1 (c : Dev nD) (t : Fin cfg0.N) : (dat m c).after 1 t = iblk m c 1 t := by dsimp only [dat]
/-- A step finds window 1 at its block. -/
theorem before1 (c : Dev nD) (t : Fin cfg0.N) (d) : (dat m c).before 1 t d = iblk m c 1 t :=
  before0_1_of m (dat m c) (dat_A m c 1) (after1 m c) t d
/-- A step leaves window 2, which it only reads, at its block. -/
theorem after2 (c : Dev nD) (t : Fin cfg0.N) : (dat m c).after 2 t = iblk m c 2 t := by dsimp only [dat]
/-- A step finds window 2 at its block. -/
theorem before2 (c : Dev nD) (t : Fin cfg0.N) (d) : (dat m c).before 2 t d = iblk m c 2 t :=
  before0_2_of m (dat m c) (dat_A m c 2) (after2 m c) t d
/-- A step leaves window 3, which it only reads, at its block. -/
theorem after3 (c : Dev nD) (t : Fin cfg0.N) : (dat m c).after 3 t = iblk m c 3 t := by dsimp only [dat]
/-- A step finds window 3 at its block. -/
theorem before3 (c : Dev nD) (t : Fin cfg0.N) (d) : (dat m c).before 3 t d = iblk m c 3 t :=
  before0_3_of m (dat m c) (dat_A m c 3) (after3 m c) t d
/-- A step leaves window 4, which it only reads, at its block. -/
theorem after4 (c : Dev nD) (t : Fin cfg0.N) : (dat m c).after 4 t = iblk m c 4 t := by dsimp only [dat]
/-- A step finds window 4 at its block. -/
theorem before4 (c : Dev nD) (t : Fin cfg0.N) (d) : (dat m c).before 4 t d = iblk m c 4 t :=
  before0_4_of m (dat m c) (dat_A m c 4) (after4 m c) t d
/-- A step leaves window 5, which it only reads, at its block. -/
theorem after5 (c : Dev nD) (t : Fin cfg0.N) : (dat m c).after 5 t = iblk m c 5 t := by dsimp only [dat]
/-- A step finds window 5 at its block. -/
theorem before5 (c : Dev nD) (t : Fin cfg0.N) (d) : (dat m c).before 5 t d = iblk m c 5 t :=
  before0_5_of m (dat m c) (dat_A m c 5) (after5 m c) t d
/-- A step leaves window 6, which it only reads, at its block. -/
theorem after6 (c : Dev nD) (t : Fin cfg0.N) : (dat m c).after 6 t = iblk m c 6 t := by dsimp only [dat]
/-- A step finds window 6 at its block. -/
theorem before6 (c : Dev nD) (t : Fin cfg0.N) (d) : (dat m c).before 6 t d = iblk m c 6 t :=
  before0_6_of m (dat m c) (dat_A m c 6) (after6 m c) t d

/-- What the body is called with at point `t`, window by window, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ Y, ⌜((dat m c).toRRel isResult (Rl m c)).Finds 7 t Y⌝ ∗ owns (c : Thread nD τ) (ms7 t) fullShare Y)
    ∗ (∃ Y, ⌜((dat m c).toRRel isResult (Rl m c)).Finds 8 t Y⌝ ∗ owns (c : Thread nD τ) (ms8 t) fullShare Y))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t)
    ∗ owns (c : Thread nD τ) (ms6 t) fullShare ((dat m c).after 6 t)
    ∗ (∃ X, ⌜Rl m c 7 t X⌝ ∗ owns (c : Thread nD τ) (ms7 t) fullShare X)
    ∗ (∃ X, ⌜Rl m c 8 t X⌝ ∗ owns (c : Thread nD τ) (ms8 t) fullShare X))

/-- What the body finds in a result's window after the first point is what the point before left there. -/
theorem finds_result (c : Dev nD) (w : Fin cfg0.W) (hw : isResult w = true) (ho : (cfg0.win w).isOut = true)
    (hfl : ∀ t : Fin cfg0.N, (cfg0.win w).flush t = true ↔ t.val % 32 = 31) (t : Fin cfg0.N) (h : 0 < t.val) (Y)
    (hY : ((dat m c).toRRel isResult (Rl m c)).Finds w t Y) : Rl m c w ⟨t.val - 1, by omega⟩ Y := by
  have hN : t.val < 32 := lt_of_lt_of_eq t.isLt (show cfg0.N = 32 from N_0)
  have h1 := (((dat m c).toRRel isResult (Rl m c)).finds_of_pos ((cfg0.win w).fetch_out ho t) (by omega) Y).mp hY
  rcases h1 with h1 | h1
  · have := (hfl _).mp h1
    have e : (t.val - 1) % 32 = 31 := this
    omega
  · exact (dat m c).toRRel_leaves hw h1

/-- After the first step, a step finds in the output block what the previous one left. -/
theorem finds7 (c : Dev nD) (t : Fin cfg0.N) (h : 0 < t.val) (Y) (hY : ((dat m c).toRRel isResult (Rl m c)).Finds 7 t Y) : Held7 m c (t.val - 1) Y :=
  finds_result m c 7 rfl rfl flush0_7 t h Y hY
/-- After the first step, a step finds the mean probabilities. -/
theorem finds8 (c : Dev nD) (t : Fin cfg0.N) (h : 0 < t.val) (Y) (hY : ((dat m c).toRRel isResult (Rl m c)).Finds 8 t Y) : Y = meanK (xIn m c) (gtIn m c) :=
  finds_result m c 8 rfl rfl flush0_8 t h Y hY

/-- The scratch buffers after any point. -/
theorem scratchAt_pos (c : Dev nD) (n : ℕ) (h : 0 < n) : scratchAt m c n
    = iprop(iprop(owns (c : Thread nD τ) scA fullShare (bandA (xIn m c)) ∗ owns (c : Thread nD τ) scC fullShare (bandC (xIn m c) (gsIn m c) (gtIn m c))) ∗ (∃ r, prngReg c r)) := by
  obtain ⟨k, rfl⟩ : ∃ k, n = k + 1 := ⟨n - 1, by omega⟩
  rfl

set_option maxHeartbeats 3200000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, after0, after1, after2, after3, after4, after5, after6]
  have hN : t.val < 32 := lt_of_lt_of_eq t.isLt (show cfg0.N = 32 from N_0)
  rw [show (dat m c).owesAt () t.succ = (dat m c).owesAt () t.castSucc from rfl,
    show (dat m c).Φ t.succ = scratchAt m c (t.val + 1) from rfl, show (dat m c).Φ t.castSucc = scratchAt m c t.val from rfl,
    scratchAt_pos m c (t.val + 1) (by omega)]
  obtain rfl : t = pt0 := Fin.ext h
  rw [show scratchAt m c (pt0 : Fin cfg0.N).val = Pipeline.ΦA spec0 c from rfl, PhiA_eq]
  iintro ⟨⟨⟨⟨%a, HA⟩, ⟨%g, HC⟩⟩, Hg⟩, Ho, ⟨%d0, HX⟩, ⟨%d1, HS⟩, ⟨%d2, HT⟩, ⟨%d3, HW⟩, ⟨%d4, HV⟩, ⟨%d5, HB⟩, ⟨%d6, HD⟩, ⟨%o, %ho, HO⟩, ⟨%q, %hq, HP⟩⟩
  iapply (runA c (grid0.coords pt0) _ _ _ _ _ _ _ _ _ _ _ _ _ _ _ _ _ _ _ _ _ _ ((prologue_iff pt0).mpr h) (seaFirst_of pt0 (by decide)) (iblk m c 0 pt0) (iblk m c 1 pt0) (iblk m c 2 pt0) (iblk m c 3 pt0) (iblk m c 5 pt0) o q a g Set.univ _)
  isplitl [HX]; · iexact HX
  isplitl [HS]; · iexact HS
  isplitl [HT]; · iexact HT
  isplitl [HW]; · iexact HW
  isplitl [HB]; · iexact HB
  isplitl [HO]; · iexact HO
  isplitl [HP]; · iexact HP
  isplitl [HA]; · iexact HA
  isplitl [HC]; · iexact HC
  iintro ⟨HX, HS, HT, HW, HB, HO, HP, HA, HC⟩
  isplitl [HA HC Hg]
  · isplitl [HA HC]
    · isplitl [HA]
      · iexact HA
      iexact HC
    iexact Hg
  isplitl [Ho]; · iexact Ho
  isplitl [HX]; · iexact HX
  isplitl [HS]; · iexact HS
  isplitl [HT]; · iexact HT
  isplitl [HW]; · iexact HW
  isplitl [HV]; · iexact HV
  isplitl [HB]; · iexact HB
  isplitl [HD]; · iexact HD
  isplitl [HO]
  · iexists _; isplitr
    swap
    · iexact HO
    · ipureintro
      have e := held_set m c pt0 (by decide) o (fun h => absurd h (by decide))
      rw [con, if_pos (by decide)] at e
      exact e
  · iexists _; isplitr
    swap
    · iexact HP
    · ipureintro; exact rfl

set_option maxHeartbeats 3200000 in
/-- The body at the second point. -/
theorem sound_second (c : Dev nD) (t : Fin cfg0.N) (h : t.val = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, after0, after1, after2, after3, after4, after5, after6]
  have hN : t.val < 32 := lt_of_lt_of_eq t.isLt (show cfg0.N = 32 from N_0)
  rw [show (dat m c).owesAt () t.succ = (dat m c).owesAt () t.castSucc from rfl,
    show (dat m c).Φ t.succ = scratchAt m c (t.val + 1) from rfl, show (dat m c).Φ t.castSucc = scratchAt m c t.val from rfl,
    scratchAt_pos m c (t.val + 1) (by omega)]
  rw [scratchAt_pos m c t.val (by omega)]
  iintro ⟨⟨⟨HA, HC⟩, Hg⟩, Ho, ⟨%d0, HX⟩, ⟨%d1, HS⟩, ⟨%d2, HT⟩, ⟨%d3, HW⟩, ⟨%d4, HV⟩, ⟨%d5, HB⟩, ⟨%d6, HD⟩, ⟨%o, %ho, HO⟩, ⟨%q, %hq, HP⟩⟩
  iapply (runB c (grid0.coords t) _ _ _ _ _ _ _ _ _ _ _ _ _ _ _ _ _ _ _ _ _ _ (fun h' => absurd ((prologue_iff t).mp h') (by omega)) (seaFirst_of t (by omega)) (iblk m c 3 t) (iblk m c 5 t) (bandA (xIn m c)) (bandC (xIn m c) (gsIn m c) (gtIn m c)) o Set.univ _)
  isplitl [HW]; · iexact HW
  isplitl [HB]; · iexact HB
  isplitl [HO]; · iexact HO
  isplitl [HA]; · iexact HA
  isplitl [HC]; · iexact HC
  iintro ⟨HW, HB, HO, HA, HC⟩
  isplitl [HA HC Hg]
  · isplitl [HA HC]
    · isplitl [HA]
      · iexact HA
      iexact HC
    iexact Hg
  isplitl [Ho]; · iexact Ho
  isplitl [HX]; · iexact HX
  isplitl [HS]; · iexact HS
  isplitl [HT]; · iexact HT
  isplitl [HW]; · iexact HW
  isplitl [HV]; · iexact HV
  isplitl [HB]; · iexact HB
  isplitl [HD]; · iexact HD
  isplitl [HO]
  · iexists _; isplitr
    swap
    · iexact HO
    · ipureintro
      have e := held_set m c t (by omega) o (fun _ => by have := finds7 m c t (by omega) o ho; rwa [h] at this)
      rw [con, if_pos (by omega)] at e
      exact e
  · iexists _; isplitr
    swap
    · iexact HP
    · ipureintro; exact finds8 m c t (by omega) q hq

set_option maxHeartbeats 3200000 in
/-- The body at the other points of the seasonal half. -/
theorem sound_sea (c : Dev nD) (t : Fin cfg0.N) (h : 2 ≤ t.val) (h' : t.val < 16) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, after0, after1, after2, after3, after4, after5, after6]
  have hN : t.val < 32 := lt_of_lt_of_eq t.isLt (show cfg0.N = 32 from N_0)
  rw [show (dat m c).owesAt () t.succ = (dat m c).owesAt () t.castSucc from rfl,
    show (dat m c).Φ t.succ = scratchAt m c (t.val + 1) from rfl, show (dat m c).Φ t.castSucc = scratchAt m c t.val from rfl,
    scratchAt_pos m c (t.val + 1) (by omega)]
  rw [scratchAt_pos m c t.val (by omega)]
  iintro ⟨⟨⟨HA, HC⟩, Hg⟩, Ho, ⟨%d0, HX⟩, ⟨%d1, HS⟩, ⟨%d2, HT⟩, ⟨%d3, HW⟩, ⟨%d4, HV⟩, ⟨%d5, HB⟩, ⟨%d6, HD⟩, ⟨%o, %ho, HO⟩, ⟨%q, %hq, HP⟩⟩
  iapply (runC c (grid0.coords t) _ _ _ _ _ _ _ _ _ _ _ _ _ _ _ _ _ _ _ _ _ _ (fun h' => absurd ((prologue_iff t).mp h') (by omega)) (seaAdd_of t h h') (iblk m c 3 t) (iblk m c 5 t) (bandA (xIn m c)) (bandC (xIn m c) (gsIn m c) (gtIn m c)) o Set.univ _)
  isplitl [HW]; · iexact HW
  isplitl [HB]; · iexact HB
  isplitl [HO]; · iexact HO
  isplitl [HA]; · iexact HA
  isplitl [HC]; · iexact HC
  iintro ⟨HW, HB, HO, HA, HC⟩
  isplitl [HA HC Hg]
  · isplitl [HA HC]
    · isplitl [HA]
      · iexact HA
      iexact HC
    iexact Hg
  isplitl [Ho]; · iexact Ho
  isplitl [HX]; · iexact HX
  isplitl [HS]; · iexact HS
  isplitl [HT]; · iexact HT
  isplitl [HW]; · iexact HW
  isplitl [HV]; · iexact HV
  isplitl [HB]; · iexact HB
  isplitl [HD]; · iexact HD
  isplitl [HO]
  · iexists _; isplitr
    swap
    · iexact HO
    · ipureintro
      have e := held_add m c t h o (finds7 m c t (by omega) o ho)
      rw [con, if_pos h'] at e
      exact e
  · iexists _; isplitr
    swap
    · iexact HP
    · ipureintro; exact finds8 m c t (by omega) q hq

set_option maxHeartbeats 3200000 in
/-- The body at the points of the trend half. -/
theorem sound_trend (c : Dev nD) (t : Fin cfg0.N) (h : 16 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, after0, after1, after2, after3, after4, after5, after6]
  have hN : t.val < 32 := lt_of_lt_of_eq t.isLt (show cfg0.N = 32 from N_0)
  rw [show (dat m c).owesAt () t.succ = (dat m c).owesAt () t.castSucc from rfl,
    show (dat m c).Φ t.succ = scratchAt m c (t.val + 1) from rfl, show (dat m c).Φ t.castSucc = scratchAt m c t.val from rfl,
    scratchAt_pos m c (t.val + 1) (by omega)]
  rw [scratchAt_pos m c t.val (by omega)]
  iintro ⟨⟨⟨HA, HC⟩, Hg⟩, Ho, ⟨%d0, HX⟩, ⟨%d1, HS⟩, ⟨%d2, HT⟩, ⟨%d3, HW⟩, ⟨%d4, HV⟩, ⟨%d5, HB⟩, ⟨%d6, HD⟩, ⟨%o, %ho, HO⟩, ⟨%q, %hq, HP⟩⟩
  iapply (runD c (grid0.coords t) _ _ _ _ _ _ _ _ _ _ _ _ _ _ _ _ _ _ _ _ _ _ (fun h' => absurd ((prologue_iff t).mp h') (by omega)) (trendAdd_of t h) (iblk m c 4 t) (iblk m c 6 t) (bandA (xIn m c)) (bandC (xIn m c) (gsIn m c) (gtIn m c)) o Set.univ _)
  isplitl [HV]; · iexact HV
  isplitl [HD]; · iexact HD
  isplitl [HO]; · iexact HO
  isplitl [HA]; · iexact HA
  isplitl [HC]; · iexact HC
  iintro ⟨HV, HD, HO, HA, HC⟩
  isplitl [HA HC Hg]
  · isplitl [HA HC]
    · isplitl [HA]
      · iexact HA
      iexact HC
    iexact Hg
  isplitl [Ho]; · iexact Ho
  isplitl [HX]; · iexact HX
  isplitl [HS]; · iexact HS
  isplitl [HT]; · iexact HT
  isplitl [HW]; · iexact HW
  isplitl [HV]; · iexact HV
  isplitl [HB]; · iexact HB
  isplitl [HD]; · iexact HD
  isplitl [HO]
  · iexists _; isplitr
    swap
    · iexact HO
    · ipureintro
      have e := held_add m c t (by omega) o (finds7 m c t (by omega) o ho)
      rw [con, if_neg (by omega)] at e
      exact e
  · iexists _; isplitr
    swap
    · iexact HP
    · ipureintro; exact finds8 m c t (by omega) q hq

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val = 1
  · exact sound_second m c t h1
  by_cases h2 : t.val < 16
  · exact sound_sea m c t (by omega) h2
  · exact sound_trend m c t (by omega)

/-- The library's body obligation. -/
theorem body_obligation (c : Dev nD) : Pipeline.BodyObligationRel (dat m c) (defs₀ (F := F)) Variants.none () Set.univ isResult (Rl m c) := fun t => by
  rw [bigSep_W0, bigSep_W0, defs₀_row]
  exact triple_restated (sound_body m c t) rfl .rfl fun _ => .rfl

end Cert.KernelIdeal.Hand

end
-- ==== Proof.Launch.lean ====
/- The launch: every run of @main ends, with each array at contents the body obligation allows, the buffers no
   window stages at what the host line after the launch computes from such contents, and every counter zero. The
   set-up follows the library's run of a launch with host lines around it. -/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data with the results' windows held to their predicates. -/
abbrev rdat (c : Dev nD) : RDat τ (Elt F) Unit ℕ (UR sig nD τ) ℕ (cfgs 0) c := (dat m c).toRRel isResult (Rl m c)

/-- Contents the arrays may hold once the launch is over. -/
abbrev Ends (c : Dev nD) (A : (w : Fin (cfgs 0).W) → Buf (Elt F) (((cfgs 0).win w).arr.view.loc (c.tc : Thread nD τ))) : Prop :=
  ∀ w, (rdat m c).ArrAt w (cfgs 0).N (A w)

/-- What a buffer holds after the host line behind the launch, the arrays at `A` before it. -/
abbrev behind (c : Dev nD) (A : (w : Fin (cfgs 0).W) → Buf (Elt F) (((cfgs 0).win w).arr.view.loc (c.tc : Thread nD τ)))
    (b : Ref sig .tc) : Buf (Elt F) ((c.tc : Thread nD τ).loc b) :=
  StableHlo.after (List.flatten [hostOps1]) (withArrays (cfgs 0).spec c (V0 m c) A) (Proc.devRef .tc b)

/-- The run's post. -/
def Post (r : PUnit × MemSt nD τ sig (Elt F)) : Prop :=
  ∀ c : Dev nD, Ends m c (fun w => r.2.mem (((cfgs 0).spec w).arr.view.loc (c.tc : Thread nD τ)))
    ∧ ∃ A, Ends m c A ∧ ∀ b ∈ restRefs sig (cfgs 0).spec, r.2.mem ((c.tc : Thread nD τ).loc b) = behind m c A b

local notation "pcs" => fun q : Fin 1 => Cfg.toPCfg (Val := Elt F) (cfgs q)
local notation "adm" => fun q : Fin 1 => Cfg.toPCfg_adm (Val := Elt F) (cfgs q)

/-- The arrays at some contents they may hold, -/
theorem arraysAt_open (c : Dev nD) : ((rdat m c).arraysAt (cfgs 0).N : sProp 𝕄) ⊢ iprop(∃ A, ⌜Ends m c A⌝ ∗ (rdat m c).arrays A) := by
  unfold RDat.arraysAt RDat.arrays
  iintro H
  ihave H1 := (BI.bigSep_exists_pi Finset.univ (fun w A => iprop(⌜(rdat m c).ArrAt w (cfgs 0).N A⌝
      ∗ ((cfgs 0).win w).arr.view.loc (c.tc : Thread nD τ) ↦[((cfgs 0).win w).arr.view.set]{(rdat m c).share w} A))) $$ H
  icases H1 with ⟨%A, H1⟩
  ihave H2 := (BI.bigSep_pure_sep Finset.univ (fun w => (rdat m c).ArrAt w (cfgs 0).N (A w))
      (fun w => ((cfgs 0).win w).arr.view.loc (c.tc : Thread nD τ) ↦[((cfgs 0).win w).arr.view.set]{(rdat m c).share w} A w)) $$ H1
  icases H2 with ⟨%hA, H2⟩
  iexists A
  isplitr
  · ipureintro; exact fun w => hA w (Finset.mem_univ w)
  · iexact H2

/-- and the converse. -/
theorem arraysAt_close (c : Dev nD) (A) (hA : Ends m c A) : ((rdat m c).arrays A : sProp 𝕄) ⊢ (rdat m c).arraysAt (cfgs 0).N := by
  unfold RDat.arraysAt RDat.arrays
  refine BI.bigSep_mono fun w _ => ?_
  show (((cfgs 0).win w).arr.view.loc (c.tc : Thread nD τ) ↦[((cfgs 0).win w).arr.view.set]{(rdat m c).share w} A w : sProp 𝕄)
    ⊢ iprop(∃ F, ⌜(rdat m c).ArrAt w (cfgs 0).N F⌝ ∗ ((cfgs 0).win w).arr.view.loc (c.tc : Thread nD τ) ↦[((cfgs 0).win w).arr.view.set]{(rdat m c).share w} F)
  iintro H
  iexists (A w)
  isplitr
  · ipureintro; exact hA w
  · iexact H

set_option backward.isDefEq.respectTransparency.types false in
set_option maxHeartbeats 1600000 in
/-- Every run of @main ends in `Post`, every counter zero. -/
theorem run_main : θ_run defs (onTc (τ := τ) (main (F := F))) (s₀ m ρ) (fun r => Post m r ∧ r.2.sem = fun _ => 0) := by
  classical
  have kit := (launch0.toP (Val := Elt F)).to₀
  have hA : ∀ c w, (rdat m c).A w = V0 m c (Proc.devRef .tc (arrRef (cfgs 0).spec w)) := fun c w => dat_A m c w
  have hq : ∀ c w, ((cfgs 0).spec w).isOut = false → (rdat m c).q w = shareOf (cfgs 0).spec w := fun c w hw =>
    (rdat m c).q_eq_shareOf_of_share_full launch0.win.arr_inj ((dat m c).share_full fun _ => rfl) w hw
  have hbufs : ∀ c A, Ends m c A → ((rdat m c).arrays A : sProp 𝕄)
      = arrBufs (cfgs 0).spec c (fun b => withArrays (cfgs 0).spec c (V0 m c) A (Proc.devRef .tc b)) := fun c A hE =>
    ((rdat m c).arrBufs_eq_arrays kit.sharedIn kit.arr_whole (hq c) _ A fun w =>
      (withArrays_arr_shared (cfgs 0).spec c (V0 m c) A ((rdat m c).ArrAt_sharedIn kit.sharedIn (V0 m c) (hA c) (cfgs 0).N A hE) w).symm).symm
  exact RDat.θ_run_region_pf_tail_quiescent pcs adm (RDat.familyOf pcs adm 0 (rdat m)) () (kit.cellOf_inj adm) (0 : Fin 1) kit.win
    (OwnSemFacts.none (cfgs 0).spec) kit.pre emb₁ defs₀ Variants.none m ρ main
    (fun _ => chain ([hostOps1].map StableHlo.seq)) (fun c => by rw [RDat.familyOf_self]; exact (body_obligation m c).toRRel)
    kit.block_pos kit.arr_whole kit.stage_whole (fun c t => by rw [RDat.familyOf_self]; rfl)
    (G := fun _ => iprop(emp)) (u₀ := initOf (cells (pin pcs adm) (kit.cellOf_inj adm)) (launchToks (pin pcs adm) (kit.cellOf_inj adm)))
    (hu₀ := by
      iintro Hu; imodintro
      isplitl [Hu]
      · iapply (show (ownU _ : sProp 𝕄) ⊢ BI.own (emb₁ (initOf (cells (pin pcs adm) (kit.cellOf_inj adm)) (launchToks (pin pcs adm) (kit.cellOf_inj adm)))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none)
    (hsplit := fun c => by rw [RDat.familyOf_self]; exact (rdat m c).arrays_split_shared kit.sharedIn kit.arr_whole (hq c) (V m c) _ (hA c))
    (hpf := fun _ k => k.elim0)
    (X := fun c => iprop(∃ r, prngReg c r)) (Y := fun c => iprop(∃ r, prngReg c r))
    (Z := fun c => unscopedRestP Prefetch.none (cfgs 0).spec c (V m c))
    (Z' := fun c => iprop(∃ A, ⌜Ends m c A⌝ ∗ unscopedRestP Prefetch.none (cfgs 0).spec c (behind m c A)))
    (hX := fun c => by
      iintro ⟨HU, -, -, Hp, -⟩; imodintro
      isplitl [Hp]
      · iexists _; iexact Hp
      · iexact HU)
    (hin := fun c => by
      rw [RDat.familyOf_self]
      show _ ⊢ scratchAt m c 0
      unfold scratchAt ΦA
      iintro ⟨Hp, -, Hr⟩
      isplitl [Hr] <;> iassumption)
    (hout := fun c => by
      rw [RDat.familyOf_self, ownSems0_none]
      show scratchAt m c 32 ⊢ _
      have e : (scratchAt m c 32 : sProp 𝕄) ⊢ Pipeline.ΦA spec0 c := by
        rw [PhiA_eq, scratchAt_pos m c 32 (by decide)]
        iintro ⟨⟨HA, HC⟩, Hg⟩
        isplitl [HA HC]
        · isplitl [HA]
          · iexists _; iexact HA
          · iexists _; iexact HC
        · iexact Hg
      refine e.trans ?_
      unfold ΦA
      iintro ⟨Hr, Hp⟩
      isplitl [Hp]; · iexact Hp
      isplitr; · iempintro
      iexact Hr)
    (htail := fun c Q => by
      rw [RDat.familyOf_self]
      iintro ⟨Hk, Hb, Ha, HZ⟩
      ihave Ha1 := (arraysAt_open m c) $$ Ha
      icases Ha1 with ⟨%A, %hE, Ha⟩
      iapply (tail_seqs_bufs_b pcs defs₀ Variants.none Prefetch.none (cfgs 0).spec c (V0 m c) A [hostOps1] sfx_sub sfx_fresh sfx_keeps Q)
      isplitl [Hk]
      · iintro ⟨Hb, Ha, Hu⟩
        iapply Hk
        isplitl [Hb]; · iexact Hb
        isplitl [Ha]
        · iapply (arraysAt_close m c A hE); iapply (Entails.of_eq (hbufs c A hE).symm); iexact Ha
        · iexists A; isplitr
          · ipureintro; exact hE
          · iexact Hu
      · isplitl [Hb]; · iexact Hb
        isplitl [Ha]; · iapply (Entails.of_eq (hbufs c A hE)); iexact Ha
        iexact HZ)
    (QY := fun c s => ∃ A, Ends m c A ∧ ∀ b ∈ restRefsP sig Prefetch.none (cfgs 0).spec, s.mem ((c.tc : Thread nD τ).loc b) = behind m c A b)
    (hY := fun c s => by
      iintro ⟨-, HZ, HS⟩
      icases HZ with ⟨%A, %hE, HZ⟩
      unfold unscopedRestP
      ihave H := (pointsTo_read_all (restRefsP sig Prefetch.none (cfgs 0).spec) (fun b => (c.tc : Thread nD τ).loc b) (behind m c A) s) $$ [HZ HS]
      · isplitl [HZ] <;> iassumption
      icases H with ⟨%hr, HS⟩
      imodintro
      isplitr
      · ipureintro; exact ⟨A, hE, hr⟩
      · iexact HS)
    (hQ := fun s h hz => ⟨fun c => by
      obtain ⟨h1, -, A, hE, hr⟩ := h c
      refine ⟨fun w => by simpa only [RDat.familyOf_self] using h1 w, A, hE, ?_⟩
      exact rest_of_restP Prefetch.none (cfgs 0).spec (fun k => k.elim0) c (behind m c A) s (fun k => k.elim0) (fun k => k.elim0) hr, hz⟩)

end Cert.KernelIdeal.Hand

end
-- ==== Proof.Results.lean ====
/- What the kernel's two results hold after every run, read off the launch's post, and the frame. -/
module

public import proofs.«01_k».proof.Proof.Launch
public import Idealize.ShloMosaic.Lib.Pipeline.ArrRel

@[expose] public section

set_option maxRecDepth 16384

noncomputable section

namespace Cert.KernelIdeal.Hand

open Idealize.ShloMosaic Idealize.ShloMosaic.TcCoe
open Idealize.SL Idealize.SL.Sem
open Idealize.ShloMosaic.Pipeline
open Cert.KernelIdeal.Gen

variable {F : FTy → Type} [FloatOps F] [Named F]

variable (m : (ℓ : Loc nD τ sig) → Buf (Elt F) ℓ) (ρ : Dev nD → PrngReg)

/-- The first result: on each half of the output steps, the sum over the sixteen rounds. -/
def outK (c : Dev nD) : Vec F S4x1024x256 .f32 := fun y =>
  acc m c ((y 1).val / 512) 15 (ix2 ⟨(y 1).val % 512, Nat.mod_lt _ (by decide)⟩ (col (y 0) (y 2)))

/-- The second result. -/
def pmK (c : Dev nD) : Vec F S256x8 .f32 := transpose S256x8 [1, 0] (meanK (xIn m c) (gtIn m c)) transposes_S8x256_S256x8_1_0

/-- The last grid point. -/
abbrev ptLast : Fin cfg0.N := ⟨31, by decide⟩

/-- The last step writes the whole first result back. -/
theorem whole7 : (cfg0.win 7).WholeAt ptLast := by decide +kernel
/-- And the whole second result. -/
theorem whole8 : (cfg0.win 8).WholeAt ptLast := by decide +kernel

/-- The arrays of the results at the end of the launch. -/
theorem ends7 (c : Dev nD) (A) (h : Ends m c A) : A 7 = outK m c := by
  obtain ⟨X, hX, e⟩ := RDat.ArrAt.emb_eq_of_wholeAt (h 7) whole7
  have hH : Held7 m c 31 X := (dat m c).toRRel_leaves rfl hX
  funext y
  refine (e y).trans ((hH y ?_).trans ?_)
  · have : (y 1).val < 1024 := (y 1).isLt
    omega
  · have h1 : (y 1).val < 1024 := (y 1).isLt
    have e1 : (31 - (y 1).val / 512) / 2 = 15 := by omega
    unfold outK
    rw [e1]
/-- The second array ends as the mean probabilities. -/
theorem ends8 (c : Dev nD) (A) (h : Ends m c A) : A 8 = meanK (xIn m c) (gtIn m c) := by
  obtain ⟨X, hX, e⟩ := RDat.ArrAt.emb_eq_of_wholeAt (h 8) whole8
  have hH : X = meanK (xIn m c) (gtIn m c) := (dat m c).toRRel_leaves rfl hX
  subst hH
  funext y
  exact e y

/-- An input's array at the end of the launch. -/
theorem ends_in (c : Dev nD) (A) (h : Ends m c A) (w : Fin cfg0.W) (hw : (cfg0.win w).isOut = false) :
    A w = V m c (Pipeline.arrRef spec0 w) := by
  have h1 := h w
  rw [(rdat m c).ArrAt_in w hw] at h1
  exact h1.trans (dat_A m c w)

/-- The host line writes no other buffer. -/
theorem behind_of_ne (c : Dev nD) (A) (b : Ref sig .tc) (h : b ≠ main_v3) (h' : ∀ w, Pipeline.arrRef spec0 w ≠ b) :
    behind m c A b = V m c b := by
  unfold behind
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h)),
    Pipeline.withArrays_of_ne _ c (V0 m c) _ b h']

/-- And writes the second result from its array. -/
theorem behind_v3 (c : Dev nD) (A) (h : Ends m c A) : behind m c A main_v3 = pmK m c := by
  have e : behind m c A main_v3 = transpose S256x8 [1, 0] (A 8) transposes_S8x256_S256x8_1_0 := by
    unfold behind
    simp only [hostOps1, List.flatten_cons, List.flatten_nil, List.append_nil, StableHlo.after_cons, StableHlo.after_nil]
    refine (StableHlo.unary_result main_v2_1 main_v3 _ _ _ _).trans ?_
    exact congrArg (fun a : Vec F S8x256 .f32 => transpose S256x8 [1, 0] a transposes_S8x256_S256x8_1_0) (Pipeline.withArrays_arr (cfgs 0).spec launch0.win.arr_inj c (V0 m c) A 8)
  rw [e, ends8 m c A h]; rfl

/-- Every run of the kernel leaves its two results at `outK` and `pmK`, its arguments as they were, every counter zero. -/
theorem run : θ_run defs (onTc (τ := τ) (main (F := F))) ⟨m, fun _ => 0, ρ⟩ (fun r => (∀ c : Dev nD,
      r.2.mem ((c.tc : Thread nD τ).loc main_v2_0) = outK m c
      ∧ r.2.mem ((c.tc : Thread nD τ).loc main_v3) = pmK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    obtain ⟨hE, A, hA, hr⟩ := h.1 c
    refine ⟨ends7 m c _ hE, (hr main_v3 (Pipeline.mem_restRefs_of main_v3 (by decide) (by decide))).trans (behind_v3 m c A hA),
      (ends_in m c _ hE 0 rfl).trans (V_main_arg0 m c), (ends_in m c _ hE 1 rfl).trans (V_main_arg1 m c),
      (ends_in m c _ hE 3 rfl).trans (V_main_arg2 m c), ?_, (ends_in m c _ hE 2 rfl).trans (V_main_arg4 m c),
      (ends_in m c _ hE 4 rfl).trans (V_main_arg5 m c), ?_⟩
    · exact (hr main_arg3 (Pipeline.mem_restRefs_of main_arg3 (by decide) (by decide))).trans
        ((behind_of_ne m c A main_arg3 (by decide) (by decide)).trans (V_main_arg3 m c))
    · exact (hr main_arg6 (Pipeline.mem_restRefs_of main_arg6 (by decide) (by decide))).trans
        ((behind_of_ne m c A main_arg6 (by decide) (by decide)).trans (V_main_arg6 m c)), h.2⟩) (run_main m ρ)

/-- Every run of the kernel leaves its arguments as they were, every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2.2, h.2⟩) (run m ρ)

end Cert.KernelIdeal.Hand

end
-- ==== Proof.KernelFrame.lean ====
/- The frame of the kernel as printed: at any float instance the idealized kernel, its named constant read as its word, is the kernel. -/
module

public import proofs.«01_k».proof.Defs
public import proofs.«01_k».proof.Proof.Results
public import proofs.«01_k».proof.Proof.Gen.Kernel

@[expose] public section

set_option maxRecDepth 16384

noncomputable section

namespace Cert.Proof

open Idealize.ShloMosaic Idealize.ShloMosaic.TcCoe Idealize.SL.Sem

variable {F : FTy → Type} [FloatOps F]

/-- The named constant read as the word it was printed from. -/
@[reducible] def wordNamed : Named F where
  named _ _ {φ} bits := Scalar.ofBits φ bits

/-- The two body tables are one: the bodies agree term by term. -/
theorem bodies_eq : Cert.Kernel.defs₀ (F := F) = @Cert.KernelIdeal.defs₀ F _ wordNamed _ := by
  unfold Cert.Kernel.defs₀ Cert.KernelIdeal.defs₀
  refine congrArg (Defs.onTc (nD := Cert.KernelIdeal.nD) (τ := Cert.KernelIdeal.τ) (sig := Cert.KernelIdeal.sig)
    (Val := Elt F) (Λ := Cert.KernelIdeal.Λ₀)) (funext fun b => funext fun x => ?_)
  match b, x with
  | 0, (t, s) => rfl
  | ⟨_ + 1, h⟩, _ => exact absurd h (Nat.not_lt.2 (Nat.le_add_left _ _))

/-- And so are the tables with the pipeline added. -/
theorem defs_eq : Cert.Kernel.defs (F := F) = @Cert.KernelIdeal.defs F _ wordNamed _ :=
  congrArg (Pipeline.defs (Cert.KernelIdeal.pcfgs (F := F))) bodies_eq

/-- The kernel leaves its arguments as they were, every counter zero: its program is, term by term, the idealized
    kernel's at the word. -/
theorem frame_kernel : Cert.quiescent_Kernel := fun m g _ => by
  letI : Named Bits := wordNamed
  have h := Cert.KernelIdeal.Hand.frame (F := Bits) m g
  rw [← defs_eq] at h
  exact h

end Cert.Proof

end
-- ==== Proof.Blocks.lean ====
/- What each grid point's blocks are, as entries of the arguments: the series and the gate matrices whole, half of one
   expert's weight matrix, the bias matrices turned on their side. -/
module

public import proofs.«01_k».proof.Proof.Results
public import Idealize.ShloMosaic.Lib.Pointwise
public import Idealize.ShloMosaic.Lib.Claim

@[expose] public section
set_option maxRecDepth 16384
noncomputable section
namespace Cert.KernelIdeal.Hand
open Idealize.ShloMosaic Idealize.ShloMosaic.TcCoe
open Cert.KernelIdeal.Gen

variable {F : FTy → Type} [FloatOps F] [Named F]
variable (m : (ℓ : Loc nD τ sig) → Buf (Elt F) ℓ)

/-- The series, whole. -/
theorem xIn_read (c : Dev nD) (b : Fin 4) (r : Fin 2048) (l : Fin 256) :
    xIn m c (ix3 b r l) = (m ((c.tc : Thread nD τ).loc main_arg0) : Vec F S4x2048x256 .f32) (ix3 b r l) := by
  have idx : (cfg0.win 0).index pt0 = ![0, 0, 0] := by decide +kernel
  blk_ext [iblk, V, idx]
/-- The seasonal gate matrix, whole. -/
theorem gsIn_read (c : Dev nD) (e : Fin 8) (k : Fin 2048) :
    gsIn m c (ix2 e k) = (m ((c.tc : Thread nD τ).loc main_arg1) : Vec F S8x2048 .f32) (ix2 e k) := by
  have idx : (cfg0.win 1).index pt0 = ![0, 0] := by decide +kernel
  blk_ext [iblk, V, idx]
/-- The trend gate matrix, whole. -/
theorem gtIn_read (c : Dev nD) (e : Fin 8) (k : Fin 2048) :
    gtIn m c (ix2 e k) = (m ((c.tc : Thread nD τ).loc main_arg4) : Vec F S8x2048 .f32) (ix2 e k) := by
  have idx : (cfg0.win 2).index pt0 = ![0, 0] := by decide +kernel
  blk_ext [iblk, V, idx]

/-- The seasonal weights: at half `p` of round `k` below 8, rows of half `p` of expert `k`. -/
theorem w3_read (c : Dev nD) (p : Fin 2) (e : Fin 8) (q : Fin 512) (k : Fin 2048) :
    (iblk m c 3 (pt p.val e.val) : Vec F S1x512x2048 .f32) (ix3 0 q k)
      = (m ((c.tc : Thread nD τ).loc main_arg2) : Vec F S8x1024x2048 .f32) (ix3 e ⟨512 * p.val + q.val, by omega⟩ k) := by
  have idx : ∀ (p : Fin 2) (e : Fin 8), (cfg0.win 3).index (pt p.val e.val) = ![e.val, p.val, 0] := by decide +kernel
  blk_ext [iblk, V, idx p e]
/-- The trend weights: at half `p` of round `8 + k`. -/
theorem w4_read (c : Dev nD) (p : Fin 2) (e : Fin 8) (q : Fin 512) (k : Fin 2048) :
    (iblk m c 4 (pt p.val (8 + e.val)) : Vec F S1x512x2048 .f32) (ix3 0 q k)
      = (m ((c.tc : Thread nD τ).loc main_arg5) : Vec F S8x1024x2048 .f32) (ix3 e ⟨512 * p.val + q.val, by omega⟩ k) := by
  have idx : ∀ (p : Fin 2) (e : Fin 8), (cfg0.win 4).index (pt p.val (8 + e.val)) = ![e.val, p.val, 0] := by decide +kernel
  blk_ext [iblk, V, idx p e]
/-- The bias matrices as the launch finds them, turned on their side. -/
theorem bias_sea (c : Dev nD) : (V m c main_v0 : Vec F S1024x8 .f32)
    = transpose S1024x8 [1, 0] (m ((c.tc : Thread nD τ).loc main_arg3)) transposes_S8x1024_S1024x8_1_0 := by
  show StableHlo.after [hostOps0].flatten (fun b => m (c, b)) _ = _
  simp only [hostOps0, List.flatten_cons, List.flatten_nil, List.append_nil, StableHlo.after_cons, StableHlo.after_nil]
  exact (StableHlo.unary_result_ne _ _ _ _ _ _ (by decide)).trans (StableHlo.unary_result _ _ _ _ _ _)
/-- The same of the trend biases. -/
theorem bias_trend (c : Dev nD) : (V m c main_v1 : Vec F S1024x8 .f32)
    = transpose S1024x8 [1, 0] (m ((c.tc : Thread nD τ).loc main_arg6)) transposes_S8x1024_S1024x8_1_0 := by
  show StableHlo.after [hostOps0].flatten (fun b => m (c, b)) _ = _
  simp only [hostOps0, List.flatten_cons, List.flatten_nil, List.append_nil, StableHlo.after_cons, StableHlo.after_nil]
  exact (StableHlo.unary_result _ _ _ _ _ _).trans (congrArg (fun a : Vec F S8x1024 .f32 => transpose S1024x8 [1, 0] a transposes_S8x1024_S1024x8_1_0)
    (StableHlo.unary_result_ne _ _ _ _ _ _ (by decide)))

/-- The seasonal biases. -/
theorem w5_read (c : Dev nD) (t : Fin cfg0.N) (o : Fin 1024) (e : Fin 8) :
    (iblk m c 5 t : Vec F S1024x8 .f32) (ix2 o e)
      = (m ((c.tc : Thread nD τ).loc main_arg3) : Vec F S8x1024 .f32) (ix2 e o) := by
  have idx : ∀ t : Fin cfg0.N, (cfg0.win 5).index t = ![0, 0] := by decide +kernel
  have h : (iblk m c 5 t : Vec F S1024x8 .f32) (ix2 o e) = (V m c main_v0 : Vec F S1024x8 .f32) (ix2 o e) := by
    blk_ext [iblk, idx t]
  rw [h, bias_sea]
  pointwise
/-- The trend biases. -/
theorem w6_read (c : Dev nD) (t : Fin cfg0.N) (o : Fin 1024) (e : Fin 8) :
    (iblk m c 6 t : Vec F S1024x8 .f32) (ix2 o e)
      = (m ((c.tc : Thread nD τ).loc main_arg6) : Vec F S8x1024 .f32) (ix2 e o) := by
  have idx : ∀ t : Fin cfg0.N, (cfg0.win 6).index t = ![0, 0] := by decide +kernel
  have h : (iblk m c 6 t : Vec F S1024x8 .f32) (ix2 o e) = (V m c main_v1 : Vec F S1024x8 .f32) (ix2 o e) := by
    blk_ext [iblk, idx t]
  rw [h, bias_trend]
  pointwise

end Cert.KernelIdeal.Hand
end
-- ==== Proof.Spec.lean ====
/- The mathematics both programs compute, one number at a time over the extended reals: the moving average and the
   residual, the gate's probabilities, the weights of the two best experts, the weighted sum of the experts. -/
module

public import Idealize.ShloMosaic.Lib.Pointwise
public import Idealize.ShloMosaic.Lib.IdealHost

@[expose] public section

noncomputable section

namespace Cert.Proof

open Idealize.ShloMosaic

/-- Row `k` of the series padded by twelve copies of its first row and of its last, as a row of the series. -/
def clampRow (k : ℕ) : Fin 2048 := ⟨min (k - 12) 2047, by omega⟩

/-- The sum of the twenty-five rows around row `r`. -/
def winSum (f : Fin 2048 → EReal) (r : ℕ) : EReal := ∑ d ∈ Finset.range 25, f (clampRow (r + d))

/-- One twenty-fifth. -/
abbrev inv25 : EReal := ((25⁻¹ : ℝ) : EReal)

/-- The trend of a series: its moving average. -/
def trendOf (f : Fin 2048 → EReal) (r : Fin 2048) : EReal := winSum f r * inv25

/-- The seasonal part of a series: what the trend leaves. -/
def seasonOf (f : Fin 2048 → EReal) (r : Fin 2048) : EReal := f r - trendOf f r

/-- The gate's score of a decomposition `f` for one expert, whose gate row is `g`. -/
def score (g f : Fin 2048 → EReal) : EReal := ∑ k, g k * f k

/-- The greatest of eight scores. -/
def top (s : Fin 8 → EReal) : EReal := Finset.univ.fold max ⊥ s

/-- The softmax of eight scores. -/
def prob (s : Fin 8 → EReal) (e : Fin 8) : EReal :=
  Ideal.div (Ideal.exp (s e - top s)) (∑ e', Ideal.exp (s e' - top s))

/-- `a` is the first of the greatest entries of `p`, `b` the first of the greatest among the others. -/
structure IsTopTwo (p : Fin 8 → EReal) (a b : Fin 8) : Prop where
  le : ∀ e, p e ≤ p a
  first : ∀ e, p e = p a → a ≤ e
  ne : b ≠ a
  le' : ∀ e, e ≠ a → p e ≤ p b
  first' : ∀ e, e ≠ a → p e = p b → b ≤ e

/-- Among the entries chosen by `q`, if any, there is a first greatest. -/
theorem exists_first (p : Fin 8 → EReal) (q : Finset (Fin 8)) (hq : q.Nonempty) :
    ∃ a ∈ q, (∀ e ∈ q, p e ≤ p a) ∧ ∀ e ∈ q, p e = p a → a ≤ e := by
  obtain ⟨m, hm, hle⟩ := q.exists_max_image p hq
  have hne : (q.filter fun e => p e = p m).Nonempty := ⟨m, Finset.mem_filter.2 ⟨hm, rfl⟩⟩
  have ha := Finset.mem_filter.1 (Finset.min'_mem _ hne)
  refine ⟨_, ha.1, fun e he => (hle e he).trans ha.2.ge, fun e he h => ?_⟩
  exact Finset.min'_le _ _ (Finset.mem_filter.2 ⟨he, h.trans ha.2⟩)

/-- There are two best entries. -/
theorem exists_topTwo (p : Fin 8 → EReal) : ∃ ab : Fin 8 × Fin 8, IsTopTwo p ab.1 ab.2 := by
  obtain ⟨a, -, h1, h2⟩ := exists_first p Finset.univ ⟨0, Finset.mem_univ _⟩
  obtain ⟨b, hb, h3, h4⟩ := exists_first p (Finset.univ.erase a) (by
    rw [← Finset.card_pos, Finset.card_erase_of_mem (Finset.mem_univ _)]; decide)
  exact ⟨(a, b), fun e => h1 e (Finset.mem_univ _), fun e => h2 e (Finset.mem_univ _), Finset.ne_of_mem_erase hb,
    fun e he => h3 e (Finset.mem_erase.2 ⟨he, Finset.mem_univ _⟩), fun e he => h4 e (Finset.mem_erase.2 ⟨he, Finset.mem_univ _⟩)⟩

/-- The two best entries. -/
def best (p : Fin 8 → EReal) : Fin 8 := (exists_topTwo p).choose.1
/-- The second best entry. -/
def second (p : Fin 8 → EReal) : Fin 8 := (exists_topTwo p).choose.2
/-- They are the two best. -/
theorem topTwo (p : Fin 8 → EReal) : IsTopTwo p (best p) (second p) := (exists_topTwo p).choose_spec

/-- They are the only two. -/
theorem IsTopTwo.unique {p : Fin 8 → EReal} {a b a' b' : Fin 8} (h : IsTopTwo p a b) (h' : IsTopTwo p a' b') : a = a' ∧ b = b' := by
  have ha : a = a' := le_antisymm (h.first _ (le_antisymm (h.le _) (h'.le _))) (h'.first _ (le_antisymm (h'.le _) (h.le _)))
  subst ha
  exact ⟨rfl, le_antisymm (h.first' _ h'.ne (le_antisymm (h.le' _ h'.ne) (h'.le' _ h.ne)))
    (h'.first' _ h.ne (le_antisymm (h'.le' _ h.ne) (h.le' _ h'.ne)))⟩
/-- Whatever are the two best are `best` and `second`. -/
theorem IsTopTwo.eq {p : Fin 8 → EReal} {a b : Fin 8} (h : IsTopTwo p a b) : best p = a ∧ second p = b := (topTwo p).unique h

/-- The gate's weights: the two best probabilities, zero elsewhere. -/
def gate (p : Fin 8 → EReal) (e : Fin 8) : EReal := if e = best p ∨ e = second p then p e else 0

/-- One expert's share of one output: its weight times its product with the decomposition plus its bias. -/
def share (c : EReal) (w f : Fin 2048 → EReal) (b : EReal) : EReal := c * ((∑ k, w k * f k) + b)

/-! ## Finite scores have probabilities that are not negative -/

/-- An extended real that is a real. -/
def IsReal (v : EReal) : Prop := ∃ r : ℝ, v = (r : EReal)

/-- A sum of real numbers is real. -/
theorem IsReal.add {u v : EReal} (hu : IsReal u) (hv : IsReal v) : IsReal (u + v) := by
  obtain ⟨r, rfl⟩ := hu; obtain ⟨s, rfl⟩ := hv; exact ⟨r + s, (EReal.coe_add r s).symm⟩
/-- So is a difference, -/
theorem IsReal.sub {u v : EReal} (hu : IsReal u) (hv : IsReal v) : IsReal (u - v) := by
  obtain ⟨r, rfl⟩ := hu; obtain ⟨s, rfl⟩ := hv; exact ⟨r - s, (EReal.coe_sub r s).symm⟩
/-- a product, -/
theorem IsReal.mul {u v : EReal} (hu : IsReal u) (hv : IsReal v) : IsReal (u * v) := by
  obtain ⟨r, rfl⟩ := hu; obtain ⟨s, rfl⟩ := hv; exact ⟨r * s, (EReal.coe_mul r s).symm⟩
/-- a finite sum, -/
theorem IsReal.sum {ι : Type} (s : Finset ι) {f : ι → EReal} (hf : ∀ i, IsReal (f i)) : IsReal (∑ i ∈ s, f i) := by
  classical
  refine Finset.sum_induction f IsReal (fun _ _ => IsReal.add) ⟨0, rfl⟩ fun i _ => hf i

/-- the trend of a finite series, -/
theorem IsReal.trendOf {f : Fin 2048 → EReal} (hf : ∀ k, IsReal (f k)) (r : Fin 2048) : IsReal (Cert.Proof.trendOf f r) :=
  (IsReal.sum _ fun _ => hf _).mul ⟨_, rfl⟩
/-- its seasonal part, -/
theorem IsReal.seasonOf {f : Fin 2048 → EReal} (hf : ∀ k, IsReal (f k)) (r : Fin 2048) : IsReal (Cert.Proof.seasonOf f r) :=
  (hf r).sub (IsReal.trendOf hf r)
/-- and a score. -/
theorem IsReal.score {g f : Fin 2048 → EReal} (hg : ∀ k, IsReal (g k)) (hf : ∀ k, IsReal (f k)) : IsReal (Cert.Proof.score g f) :=
  IsReal.sum _ fun k => (hg k).mul (hf k)

/-- The greatest score is the greatest's. -/
theorem top_eq (s : Fin 8 → EReal) (a : Fin 8) (h : ∀ e, s e ≤ s a) : top s = s a := by
  refine le_antisymm ?_ ?_
  · exact (Finset.fold_max_le _).2 ⟨bot_le, fun e _ => h e⟩
  · exact (Finset.le_fold_max _).2 (Or.inr ⟨a, Finset.mem_univ _, le_rfl⟩)

/-- The probabilities of real scores are not negative. -/
theorem prob_nonneg {s : Fin 8 → EReal} (hs : ∀ e, IsReal (s e)) (e : Fin 8) : 0 ≤ prob s e := by
  have ht : IsReal (top s) := by rw [top_eq s _ (topTwo s).le]; exact hs _
  have hz : ∀ e, IsReal (s e - top s) := fun e => (hs e).sub ht
  choose z hz using hz
  have hx : ∀ e, Ideal.exp (s e - top s) = ((Real.exp (z e) : ℝ) : EReal) := fun e => by rw [hz]; rfl
  have hsum : ∑ e', Ideal.exp (s e' - top s) = ((∑ e', Real.exp (z e') : ℝ) : EReal) := by
    simp only [hx]; exact (map_sum (⟨⟨(↑), rfl⟩, EReal.coe_add⟩ : ℝ →+ EReal) _ _).symm
  have hpos : 0 < ∑ e', Real.exp (z e') := Finset.sum_pos (fun _ _ => Real.exp_pos _) ⟨0, Finset.mem_univ _⟩
  unfold prob
  rw [hsum, hx, Ideal.div_coe hpos.ne', ← EReal.coe_mul]
  exact EReal.coe_nonneg.2 (mul_nonneg (Real.exp_pos _).le (by positivity))

/-! ## Words -/

/-- The reductions' initial word is minus infinity. -/
theorem word_bot : Ideal.ofBits .f32 0xFF800000#32 = ⊥ := by simp [Ideal.ofBits, Ideal.ieee]

/-- Row numbers are equal as words only when they are equal. -/
theorem row_word (e a : Fin 8) : IntOp.cmpi .eq (BitVec.ofNat 32 e.val) (BitVec.ofNat 32 a.val) = if e = a then 1#1 else 0#1 := by
  revert e a; decide +kernel

end Cert.Proof

end
-- ==== Proof.Window.lean ====
/- The moving average, as the kernel computes it: twelve front rows, a core and twelve back rows, all one formula,
   the sum of the twenty-five rows around a row, the first and the last row standing in beyond the ends. -/
module

public import proofs.«01_k».proof.Proof.Prologue
public import proofs.«01_k».proof.Proof.Spec
public import Idealize.ShloMosaic.Lib.Pointwise
public import Idealize.ShloMosaic.Lib.IdealHost
public import Idealize.ShloMosaic.Lib.Pipeline.Value

@[expose] public section
set_option maxRecDepth 16384
noncomputable section
namespace Cert.KernelIdeal.Hand
open Idealize.ShloMosaic Idealize.ShloMosaic.TcCoe
open Cert.KernelIdeal.Gen
open Cert.Proof (clampRow winSum inv25 trendOf seasonOf)

/-- The kernel's counts as numbers of copies. -/
theorem count_mul (n : ℕ) (x : EReal) : ((n : ℕ) : EReal) * x = n • x := (EReal.nsmul_eq_mul n x).symm

/-- The words of the counts 2 to 12. -/
theorem count_words :
    Ideal.ofBits .f32 0x40000000#32 = ((2 : ℕ) : EReal) ∧ Ideal.ofBits .f32 0x40400000#32 = ((3 : ℕ) : EReal)
    ∧ Ideal.ofBits .f32 0x40800000#32 = ((4 : ℕ) : EReal) ∧ Ideal.ofBits .f32 0x40A00000#32 = ((5 : ℕ) : EReal)
    ∧ Ideal.ofBits .f32 0x40C00000#32 = ((6 : ℕ) : EReal) ∧ Ideal.ofBits .f32 0x40E00000#32 = ((7 : ℕ) : EReal)
    ∧ Ideal.ofBits .f32 0x41000000#32 = ((8 : ℕ) : EReal) ∧ Ideal.ofBits .f32 0x41100000#32 = ((9 : ℕ) : EReal)
    ∧ Ideal.ofBits .f32 0x41200000#32 = ((10 : ℕ) : EReal) ∧ Ideal.ofBits .f32 0x41300000#32 = ((11 : ℕ) : EReal)
    ∧ Ideal.ofBits .f32 0x41400000#32 = ((12 : ℕ) : EReal) := by
  have e : ∀ n : ℕ, ((n : ℕ) : EReal) = ((n : ℝ) : EReal) := fun _ => rfl
  simp only [e]
  refine ⟨?_, ?_, ?_, ?_, ?_, ?_, ?_, ?_, ?_, ?_, ?_⟩ <;>
    (simp [Ideal.ofBits, Ideal.ieee, -EReal.coe_mul]; try norm_num)

/-- A row of pieces stacked one above the other is a row of the piece that holds it. -/
theorem stack_row {n : ℕ} (xs : List ((s : Shape) × (s.Idx → EReal))) (h : Shape.Concatenates (xs.map (·.1)) S2048x256 0)
    (k : ℕ) (hk : k < xs.length) (x : (⟨2, ![n, 256]⟩ : Shape).Idx → EReal) (hx : xs[k] = ⟨⟨2, ![n, 256]⟩, x⟩) (pre : ℕ)
    (hpre : (((xs.take k).map (·.1)).map fun s => if h : s.rank = S2048x256.rank then s.size ((0 : Fin S2048x256.rank).cast h.symm) else 0).sum = pre)
    (r : Fin 2048) (q : Fin n) (hq : pre + q.val = r.val) (l : Fin 256) :
    concatenate S2048x256 0 xs h (ix2 r l) = x (ix2 q l) := by
  refine concatenate_apply_piece (t := S2048x256) 0 xs h (ix2 r l) k hk _ x hx rfl pre hpre (ix2 q l) (fun b hb => ?_) hq
  fin_cases b
  · exact absurd rfl hb
  · rfl

/-- The core: rows 12 to 2035. -/
theorem core_read (s : Vec Ideal S1x2048x256 .f32) (r : Fin 2024) (l : Fin 256) :
    k0_pay21 s (ix2 r l) = winSum (fun k => s (ix3 0 k l)) (r + 12) := by
  have hc : ∀ n : ℕ, (h : n + r.val < 2048) → clampRow (r.val + 12 + n) = ⟨n + r.val, h⟩ := fun n h =>
    Fin.ext (by show min (r.val + 12 + n - 12) 2047 = n + r.val; omega)
  pointwise [k0_pay21, k0_pay20]
  have hw : ∀ n : ℕ, (h : n < 25) → clampRow (r.val + 12 + n) = ⟨n + r.val, by omega⟩ := fun n h => hc n (by omega)
  simp only [winSum, Finset.sum_range_succ, Finset.sum_range_zero]
  simp only [hw, Nat.reduceLT]
  simp only [← Nat.add_assoc, Nat.reduceAdd, Nat.zero_add, zero_add]
  abel

/-- Front row `j` of the stack. -/
theorem stack_front (xs : List ((s : Shape) × (s.Idx → EReal))) (h : Shape.Concatenates (xs.map (·.1)) S2048x256 0)
    (j : ℕ) (hj : j < 2048) (hk : j < xs.length) (x : (⟨2, ![1, 256]⟩ : Shape).Idx → EReal) (hx : xs[j] = ⟨⟨2, ![1, 256]⟩, x⟩)
    (hpre : (((xs.take j).map (·.1)).map fun s => if h : s.rank = S2048x256.rank then s.size ((0 : Fin S2048x256.rank).cast h.symm) else 0).sum = j)
    (l : Fin 256) : concatenate S2048x256 0 xs h (ix2 ⟨j, hj⟩ l) = x (ix2 0 l) :=
  stack_row xs h j hk x hx j hpre ⟨j, hj⟩ 0 rfl l
/-- The shapes of the stack. -/
abbrev stackShapes : List Shape := List.replicate 12 S1x256 ++ S2024x256 :: List.replicate 12 S1x256

/-- How many rows lie above back row `j`. -/
theorem rows_above : ∀ j : Fin 12, ((stackShapes.take (13 + j.val)).map fun s =>
    if h : s.rank = S2048x256.rank then s.size ((0 : Fin S2048x256.rank).cast h.symm) else 0).sum = 2036 + j.val := by
  decide +kernel

/-- Back row `j` of the stack. -/
theorem stack_back (xs : List ((s : Shape) × (s.Idx → EReal))) (h : Shape.Concatenates (xs.map (·.1)) S2048x256 0)
    (hs : xs.map (·.1) = stackShapes) (j : ℕ) (hj : j < 12) (hk : 13 + j < xs.length)
    (x : (⟨2, ![1, 256]⟩ : Shape).Idx → EReal) (hx : xs[13 + j] = ⟨⟨2, ![1, 256]⟩, x⟩)
    (l : Fin 256) : concatenate S2048x256 0 xs h (ix2 ⟨2036 + j, by omega⟩ l) = x (ix2 0 l) :=
  stack_row xs h (13 + j) hk x hx (2036 + j) (by rw [List.map_take, hs]; exact rows_above ⟨j, hj⟩) ⟨2036 + j, by omega⟩ 0 rfl l

set_option maxHeartbeats 4000000 in
/-- The front rows. -/
theorem mov_front (s : Vec Ideal S1x2048x256 .f32) (j : ℕ) (hj : j < 12) (l : Fin 256) :
    movK s (ix2 ⟨j, by omega⟩ l) = winSum (fun k => s (ix3 0 k l)) j * inv25 := by
  obtain ⟨c2, c3, c4, c5, c6, c7, c8, c9, c10, c11, c12⟩ := count_words
  interval_cases j
  all_goals
    refine congrArg (· * inv25) ((stack_front _ _ _ _ (by simp only [List.length_cons]; omega) _ rfl rfl l).trans ?_)
    pointwise [k0_pay20, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42,
      k0_pay43, k0_pay44, k0_pay45, k0_pay46, k0_pay47, c2, c3, c4, c5, c6, c7, c8, c9, c10, c11, c12, count_mul]
    simp only [winSum, Finset.sum_range_succ, Finset.sum_range_zero, clampRow, Nat.min_def, Nat.reduceAdd, Nat.reduceSub,
      Nat.reduceLeDiff, ↓reduceIte, Fin.reduceFinMk, Fin.mk_zero]
    abel

set_option maxHeartbeats 4000000 in
/-- The back rows. -/
theorem mov_back (s : Vec Ideal S1x2048x256 .f32) (j : ℕ) (hj : j < 12) (l : Fin 256) :
    movK s (ix2 ⟨2036 + j, by omega⟩ l) = winSum (fun k => s (ix3 0 k l)) (2036 + j) * inv25 := by
  obtain ⟨c2, c3, c4, c5, c6, c7, c8, c9, c10, c11, c12⟩ := count_words
  interval_cases j
  all_goals
    refine congrArg (· * inv25) ((stack_back _ _ rfl _ (by omega) (by simp only [List.length_cons]; omega) _ rfl l).trans ?_)
    pointwise [k0_pay20, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69,
      k0_pay70, k0_pay71, c2, c3, c4, c5, c6, c7, c8, c9, c10, c11, c12, count_mul]
    simp only [winSum, Finset.sum_range_succ, Finset.sum_range_zero, clampRow, Nat.min_def, Nat.reduceAdd, Nat.reduceSub,
      Nat.reduceLeDiff, ↓reduceIte, Fin.reduceFinMk, Fin.mk_zero]
    abel

/-- The moving average at any row: the sum of the rows around it, times the reciprocal of twenty-five. -/
theorem mov_read (s : Vec Ideal S1x2048x256 .f32) (r : Fin 2048) (l : Fin 256) :
    movK s (ix2 r l) = trendOf (fun k => s (ix3 0 k l)) r := by
  show _ = winSum (fun k => s (ix3 0 k l)) r * inv25
  obtain ⟨r, hr⟩ := r
  by_cases h1 : r < 12
  · exact mov_front s r h1 l
  by_cases h2 : r < 2036
  · obtain ⟨q, rfl⟩ : ∃ q, r = 12 + q := ⟨r - 12, by omega⟩
    refine congrArg (· * inv25) ((stack_row _ _ 12 (by simp only [List.length_cons]; omega) _ rfl 12 rfl _ ⟨q, by omega⟩ rfl l).trans ?_)
    refine (core_read s ⟨q, by omega⟩ l).trans ?_
    rw [Nat.add_comm]
  · obtain ⟨j, rfl⟩ : ∃ j, r = 2036 + j := ⟨r - 2036, by omega⟩
    exact mov_back s j (by omega) l

/-- The residual: the series less the moving average. -/
theorem sea_read (s : Vec Ideal S1x2048x256 .f32) (r : Fin 2048) (l : Fin 256) :
    seaK s (ix2 r l) = seasonOf (fun k => s (ix3 0 k l)) r := by
  show _ = s (ix3 0 r l) - trendOf (fun k => s (ix3 0 k l)) r
  rw [← mov_read]
  pointwise [seaK, k0_pay20]

end Cert.KernelIdeal.Hand

end
-- ==== Proof.KernelGate.lean ====
/- The kernel's gate: its probabilities are the softmax of the scores; its two selections find the first greatest
   probability, mask it with a negative number and find the first greatest among the others. -/
module

public import proofs.«01_k».proof.Proof.Window

@[expose] public section
set_option maxRecDepth 16384
noncomputable section
namespace Cert.KernelIdeal.Hand
open Idealize.ShloMosaic Idealize.ShloMosaic.TcCoe
open Cert.KernelIdeal.Gen
open Cert.Proof (word_bot row_word score prob top gate share IsTopTwo topTwo best second)

/-- The mask is negative. -/
theorem word_neg : Ideal.ofBits .f32 0xBF800000#32 < 0 := by
  have h : Ideal.ofBits .f32 0xBF800000#32 = ((-1 : ℝ) : EReal) := by simp [Ideal.ofBits, Ideal.ieee, -EReal.coe_mul]; norm_num
  rw [h]; exact_mod_cast (by norm_num : (-1 : ℝ) < 0)

/-- The kernel's probabilities. -/
theorem probs_read (a : FVec Ideal S2048x256 .f32) (g : Vec Ideal S8x2048 .f32) (e : Fin 8) (l : Fin 256) :
    probsK a g (ix2 e l) = prob (fun e' => score (fun k => g (ix2 e' k)) (fun k => a (ix2 k l))) e := by
  pointwise [probsK, k0_pay80]
  rw [word_bot]
  rfl

/-- The least of the rows' numbers where `q` holds, and of eights, is the first row where it holds. -/
theorem least_row : ∀ (q : Fin 8 → Bool) (a : Fin 8), q a = true → (∀ e, q e = true → a ≤ e) →
    Finset.univ.fold IntOp.minsi 2147483647#32 (fun x : Fin 8 => if q x = true then BitVec.ofNat 32 x.val else 8#32) = BitVec.ofNat 32 a.val := by
  decide +kernel

/-- The kernel's selection of a greatest entry finds the first. -/
theorem select_first (p : Fin 8 → EReal) (a : Fin 8) (h : ∀ e, p e ≤ p a) (h' : ∀ e, p e = p a → a ≤ e) :
    Finset.univ.fold IntOp.minsi 2147483647#32 (fun x : Fin 8 =>
      if p x = Finset.univ.fold max (Ideal.ofBits .f32 0xFF800000#32) p then BitVec.ofNat 32 x.val else 8#32) = BitVec.ofNat 32 a.val := by
  have hm : Finset.univ.fold max (Ideal.ofBits .f32 0xFF800000#32) p = p a := by rw [word_bot]; exact Cert.Proof.top_eq p a h
  rw [hm]
  have := least_row (fun x => decide (p x = p a)) a (by simp) (fun e he => h' e (by simpa using he))
  simpa only [decide_eq_true_eq] using this

/-- A value kept where either of two marks stands. -/
theorem either (P Q : Prop) [Decidable P] [Decidable Q] (v : EReal) :
    Scalar.select (IntOp.ori (if P then 1#1 else 0#1) (if Q then 1#1 else 0#1)) v 0 = if P ∨ Q then v else 0 := by
  by_cases h1 : P <;> by_cases h2 : Q <;> simp [h1, h2, Scalar.select, IntOp.ori]

/-- The first selection marks the best entry. -/
theorem sel_read (a : FVec Ideal S2048x256 .f32) (g : Vec Ideal S8x2048 .f32) (e : Fin 8) (l : Fin 256) :
    k0_pay81 a g (ix2 e l) = if e = best (fun e' => probsK a g (ix2 e' l)) then 1#1 else 0#1 := by
  have ht := topTwo (fun e' => probsK a g (ix2 e' l))
  pointwise [k0_pay81]
  rw [select_first (fun x => k0_pay80 a g (ix2 x l)) _ ht.le ht.first, row_word]

/-- The gate weights the kernel keeps, when no probability is negative. -/
theorem gate_read (a : FVec Ideal S2048x256 .f32) (g : Vec Ideal S8x2048 .f32) (e : Fin 8) (l : Fin 256)
    (hp : ∀ e, 0 ≤ probsK a g (ix2 e l)) : gateK a g (ix3 0 e l) = gate (fun e' => probsK a g (ix2 e' l)) e := by
  have ht := topTwo (fun e' => probsK a g (ix2 e' l))
  have hb : ∀ x, Scalar.select (k0_pay81 a g (ix2 x l)) (Ideal.ofBits .f32 0xBF800000#32) (k0_pay80 a g (ix2 x l))
      = if x = best (fun e' => probsK a g (ix2 e' l)) then Ideal.ofBits .f32 0xBF800000#32 else probsK a g (ix2 x l) := by
    intro x; rw [sel_read]; split <;> rfl
  have hs : Finset.univ.fold IntOp.minsi 2147483647#32 (fun x : Fin 8 => k0_pay82 a g (ix2 x l))
      = BitVec.ofNat 32 (second (fun e' => probsK a g (ix2 e' l))).val := by
    rw [← select_first (fun x => if x = best (fun e' => probsK a g (ix2 e' l)) then Ideal.ofBits .f32 0xBF800000#32 else probsK a g (ix2 x l))
      (second (fun e' => probsK a g (ix2 e' l)))]
    · refine congrArg (Finset.univ.fold IntOp.minsi 2147483647#32 · ) (funext fun x => ?_)
      pointwise [k0_pay82]
      simp only [hb]
    · intro x
      rw [if_neg ht.ne]
      split
      · exact word_neg.le.trans (hp _)
      · exact ht.le' x ‹_›
    · intro x
      rw [if_neg ht.ne]
      split
      · exact fun h => absurd (h ▸ hp _ : 0 ≤ Ideal.ofBits .f32 0xBF800000#32) (not_le.2 word_neg)
      · exact ht.first' x ‹_›
  pointwise [gateK, k0_pay83]
  rw [hs, sel_read, row_word, gate]
  exact either _ _ _

/-- One expert's contribution at one output: its row of weights times a column of the decomposition, plus its bias,
    times its gate weight; the rows of weights and of biases are picked out of the blocks by sums against zero. -/
theorem contrib_read (n : Fin 8) (w : Vec Ideal S1x512x2048 .f32) (a : Vec Ideal S1x2048x1024 .f32) (c : Vec Ideal S1x8x1024 .f32)
    (b : Vec Ideal S512x8 .f32) (q : Fin 512) (l : Fin 1024) :
    contribution n.val w a c b (ix2 q l) = share (c (ix3 0 n l)) (fun k => w (ix3 0 q k)) (fun k => a (ix3 0 k l)) (b (ix2 q n)) := by
  have hs : ∀ f : Fin 8 → EReal, ∑ x, Scalar.select (IntOp.cmpi CmpIPredicate.eq (BitVec.ofNat 32 x.val) (BitVec.ofNat 32 n.val)) (f x) 0 = f n := by
    intro f
    rw [Finset.sum_eq_single n]
    · rw [row_word, if_pos rfl]; rfl
    · intro x _ hx; rw [row_word, if_neg hx]; rfl
    · exact fun h => absurd (Finset.mem_univ _) h
  pointwise [contribution, k0_pay242]
  rw [hs (fun x => c (ix3 0 x l)), hs (fun x => b (ix2 q x))]
  rfl

/-- A quarter. -/
theorem word_quarter : Ideal.ofBits .f32 0x3E800000#32 = ((4⁻¹ : ℝ) : EReal) := by
  simp [Ideal.ofBits, Ideal.ieee, -EReal.coe_mul]; norm_num

/-- The mean over the batches, a quarter of each added up. -/
theorem mean_read (x : Vec Ideal S4x2048x256 .f32) (g : Vec Ideal S8x2048 .f32) (e : Fin 8) (l : Fin 256) :
    meanK x g (ix2 e l) = ∑ b : Fin 4, probsK (movK (slab b x)) g (ix2 e l) * ((4⁻¹ : ℝ) : EReal) := by
  rw [← word_quarter, Fin.sum_univ_four]
  pointwise [meanK, k0_pay84, k0_pay19]

end Cert.KernelIdeal.Hand
end
-- ==== Proof.KernelOut.lean ====
/- What the kernel returns: at each output the sum of the sixteen shares, and the trend gate's mean probabilities. -/
module

public import proofs.«01_k».proof.Proof.Blocks
public import proofs.«01_k».proof.Proof.KernelGate

@[expose] public section
set_option maxRecDepth 16384
noncomputable section
namespace Cert.KernelIdeal.Hand
open Idealize.ShloMosaic Idealize.ShloMosaic.TcCoe
open Idealize.SL.Sem
open Cert.KernelIdeal.Gen
open Cert.Proof (trendOf seasonOf score prob gate share IsReal prob_nonneg)

variable (m : (ℓ : Loc nD τ sig) → Buf (Elt Ideal) ℓ)

/-- The arguments. -/
abbrev xA (c : Dev nD) : Vec Ideal S4x2048x256 .f32 := m ((c.tc : Thread nD τ).loc main_arg0)
/-- The seasonal gate matrix. -/
abbrev gsA (c : Dev nD) : Vec Ideal S8x2048 .f32 := m ((c.tc : Thread nD τ).loc main_arg1)
/-- The seasonal experts. -/
abbrev wsA (c : Dev nD) : Vec Ideal S8x1024x2048 .f32 := m ((c.tc : Thread nD τ).loc main_arg2)
/-- Their biases. -/
abbrev bsA (c : Dev nD) : Vec Ideal S8x1024 .f32 := m ((c.tc : Thread nD τ).loc main_arg3)
/-- The trend gate matrix. -/
abbrev gtA (c : Dev nD) : Vec Ideal S8x2048 .f32 := m ((c.tc : Thread nD τ).loc main_arg4)
/-- The trend experts. -/
abbrev wtA (c : Dev nD) : Vec Ideal S8x1024x2048 .f32 := m ((c.tc : Thread nD τ).loc main_arg5)
/-- Their biases. -/
abbrev btA (c : Dev nD) : Vec Ideal S8x1024 .f32 := m ((c.tc : Thread nD τ).loc main_arg6)

/-- Column `l` of batch `b` of the series. -/
abbrev lineA (c : Dev nD) (b : Fin 4) (l : Fin 256) : Fin 2048 → EReal := fun k => xA m c (ix3 b k l)

/-- The decompositions of a batch. -/
theorem slab_trend (c : Dev nD) (b : Fin 4) (l : Fin 256) (k : Fin 2048) :
    movK (slab b (xIn m c)) (ix2 k l) = trendOf (lineA m c b l) k := by
  rw [mov_read]
  exact congrArg (trendOf · k) (funext fun r => xIn_read m c b r l)
/-- The seasonal part of a batch. -/
theorem slab_season (c : Dev nD) (b : Fin 4) (l : Fin 256) (k : Fin 2048) :
    seaK (slab b (xIn m c)) (ix2 k l) = seasonOf (lineA m c b l) k := by
  rw [sea_read]
  exact congrArg (seasonOf · k) (funext fun r => xIn_read m c b r l)

/-- The probabilities of both gates. -/
theorem probs_trend (c : Dev nD) (b : Fin 4) (l : Fin 256) (e : Fin 8) :
    probsK (movK (slab b (xIn m c))) (gtIn m c) (ix2 e l)
      = prob (fun e' => score (fun k => gtA m c (ix2 e' k)) (trendOf (lineA m c b l))) e := by
  rw [probs_read]
  simp only [slab_trend, gtIn_read]
/-- The seasonal gate's probabilities. -/
theorem probs_season (c : Dev nD) (b : Fin 4) (l : Fin 256) (e : Fin 8) :
    probsK (seaK (slab b (xIn m c))) (gsIn m c) (ix2 e l)
      = prob (fun e' => score (fun k => gsA m c (ix2 e' k)) (seasonOf (lineA m c b l))) e := by
  rw [probs_read]
  simp only [slab_season, gsIn_read]

/-- The weights of both gates, on finite series and gate matrices. -/
theorem gate_trend (c : Dev nD) (hx : ∀ i, IsReal (xA m c i)) (hg : ∀ i, IsReal (gtA m c i)) (b : Fin 4) (l : Fin 256) (e : Fin 8) :
    gateK (movK (slab b (xIn m c))) (gtIn m c) (ix3 0 e l)
      = gate (prob (fun e' => score (fun k => gtA m c (ix2 e' k)) (trendOf (lineA m c b l)))) e := by
  have h := probs_trend m c b l
  rw [gate_read _ _ _ _ (fun e => by
    rw [h]; exact prob_nonneg (fun e' => IsReal.score (fun k => hg _) (IsReal.trendOf fun k => hx _)) e)]
  exact congrArg (gate · e) (funext h)
/-- The seasonal gate's weights. -/
theorem gate_season (c : Dev nD) (hx : ∀ i, IsReal (xA m c i)) (hg : ∀ i, IsReal (gsA m c i)) (b : Fin 4) (l : Fin 256) (e : Fin 8) :
    gateK (seaK (slab b (xIn m c))) (gsIn m c) (ix3 0 e l)
      = gate (prob (fun e' => score (fun k => gsA m c (ix2 e' k)) (seasonOf (lineA m c b l)))) e := by
  have h := probs_season m c b l
  rw [gate_read _ _ _ _ (fun e => by
    rw [h]; exact prob_nonneg (fun e' => IsReal.score (fun k => hg _) (IsReal.seasonOf fun k => hx _)) e)]
  exact congrArg (gate · e) (funext h)

/-- What each round contributes at output step `512 p + q` of batch `b`, column `l`. -/
theorem con_season (c : Dev nD) (hx : ∀ i, IsReal (xA m c i)) (hg : ∀ i, IsReal (gsA m c i)) (p : Fin 2) (e : Fin 8) (q : Fin 512)
    (b : Fin 4) (l : Fin 256) : con m c (pt p.val e.val) (ix2 q (col b l))
      = share (gate (prob (fun e' => score (fun k => gsA m c (ix2 e' k)) (seasonOf (lineA m c b l)))) e)
        (fun k => wsA m c (ix3 e ⟨512 * p.val + q.val, by omega⟩ k)) (seasonOf (lineA m c b l)) (bsA m c (ix2 e ⟨512 * p.val + q.val, by omega⟩)) := by
  have ht : (pt p.val e.val).val < 16 := by show (2 * e.val + p.val) % 32 < 16; omega
  have he : ((grid0.coords (pt p.val e.val)) 1).val = e.val := by rw [expert_eq]; show (2 * e.val + p.val) % 32 / 2 % 8 = _; omega
  have hh : half (grid0.coords (pt p.val e.val)) = p := Fin.ext (by rw [half_eq]; show (2 * e.val + p.val) % 32 % 2 = _; omega)
  unfold con
  rw [if_pos ht, he, hh, contrib_read]
  show share (bandC (F := Ideal) _ _ _ (ix3 0 e (col b l))) _ (fun k => bandA (F := Ideal) _ (ix3 0 k (col b l))) ((iblk m c 5 (pt p.val e.val) : Vec Ideal S1024x8 .f32) (ix2 ⟨512 * p.val + q.val, _⟩ e)) = _
  rw [bandC_sea, gate_season m c hx hg, w5_read]
  simp only [bandA_sea, slab_season, w3_read]
/-- The same of the rounds of the trend experts. -/
theorem con_trend (c : Dev nD) (hx : ∀ i, IsReal (xA m c i)) (hg : ∀ i, IsReal (gtA m c i)) (p : Fin 2) (e : Fin 8) (q : Fin 512)
    (b : Fin 4) (l : Fin 256) : con m c (pt p.val (8 + e.val)) (ix2 q (col b l))
      = share (gate (prob (fun e' => score (fun k => gtA m c (ix2 e' k)) (trendOf (lineA m c b l)))) e)
        (fun k => wtA m c (ix3 e ⟨512 * p.val + q.val, by omega⟩ k)) (trendOf (lineA m c b l)) (btA m c (ix2 e ⟨512 * p.val + q.val, by omega⟩)) := by
  have ht : ¬ (pt p.val (8 + e.val)).val < 16 := by show ¬ (2 * (8 + e.val) + p.val) % 32 < 16; omega
  have he : ((grid0.coords (pt p.val (8 + e.val))) 1).val = e.val := by
    rw [expert_eq]; show (2 * (8 + e.val) + p.val) % 32 / 2 % 8 = _; omega
  have hh : half (grid0.coords (pt p.val (8 + e.val))) = p := Fin.ext (by
    rw [half_eq]; show (2 * (8 + e.val) + p.val) % 32 % 2 = _; omega)
  unfold con
  rw [if_neg ht, he, hh, contrib_read]
  show share (bandC (F := Ideal) _ _ _ (ix3 1 e (col b l))) _ (fun k => bandA (F := Ideal) _ (ix3 1 k (col b l))) ((iblk m c 6 (pt p.val (8 + e.val)) : Vec Ideal S1024x8 .f32) (ix2 ⟨512 * p.val + q.val, _⟩ e)) = _
  rw [bandC_mov, gate_trend m c hx hg, w6_read]
  simp only [bandA_mov, slab_trend, w4_read]

/-- A half's sum after a round is the sum of the rounds up to it. -/
theorem acc_sum (c : Dev nD) (p : ℕ) (y : S512x1024.Idx) : ∀ k, acc m c p k y = ∑ j ∈ Finset.range (k + 1), (con m c (pt p j) y : EReal)
  | 0 => by rw [Finset.sum_range_one]; rfl
  | k + 1 => by
    rw [Finset.sum_range_succ, ← acc_sum c p y k]
    rfl

/-- The first result. -/
theorem outK_read (c : Dev nD) (hx : ∀ i, IsReal (xA m c i)) (hs : ∀ i, IsReal (gsA m c i)) (hg : ∀ i, IsReal (gtA m c i))
    (b : Fin 4) (o : Fin 1024) (l : Fin 256) : outK m c (ix3 b o l) =
    (∑ e, share (gate (prob (fun e' => score (fun k => gsA m c (ix2 e' k)) (seasonOf (lineA m c b l)))) e)
      (fun k => wsA m c (ix3 e o k)) (seasonOf (lineA m c b l)) (bsA m c (ix2 e o)))
    + ∑ e, share (gate (prob (fun e' => score (fun k => gtA m c (ix2 e' k)) (trendOf (lineA m c b l)))) e)
      (fun k => wtA m c (ix3 e o k)) (trendOf (lineA m c b l)) (btA m c (ix2 e o)) := by
  have hp : o.val / 512 < 2 := by omega
  have ho : (⟨512 * (o.val / 512) + o.val % 512, by omega⟩ : Fin 1024) = o := Fin.ext (by show 512 * (o.val / 512) + o.val % 512 = o.val; omega)
  have h1 := fun e => con_season m c hx hs ⟨o.val / 512, hp⟩ e ⟨o.val % 512, Nat.mod_lt _ (by decide)⟩ b l
  have h2 := fun e => con_trend m c hx hg ⟨o.val / 512, hp⟩ e ⟨o.val % 512, Nat.mod_lt _ (by decide)⟩ b l
  simp only [ho] at h1 h2
  refine (acc_sum m c (o.val / 512) (ix2 ⟨o.val % 512, Nat.mod_lt _ (by decide)⟩ (col b l)) 15).trans ?_
  rw [show 15 + 1 = 8 + 8 from rfl, Finset.sum_range_add, ← Fin.sum_univ_eq_sum_range (fun j => (con m c (pt (o.val / 512) j) _ : EReal)),
    ← Fin.sum_univ_eq_sum_range (fun j => (con m c (pt (o.val / 512) (8 + j)) _ : EReal))]
  exact congrArg₂ (· + ·) (Finset.sum_congr rfl fun e _ => h1 e) (Finset.sum_congr rfl fun e _ => h2 e)

/-- The second result. -/
theorem pmK_read (c : Dev nD) (l : Fin 256) (e : Fin 8) : pmK m c (ix2 l e) =
    ∑ b : Fin 4, prob (fun e' => score (fun k => gtA m c (ix2 e' k)) (trendOf (lineA m c b l))) e * ((4⁻¹ : ℝ) : EReal) := by
  have h := mean_read (xIn m c) (gtIn m c) e l
  simp only [probs_trend] at h
  rw [← h]
  unfold pmK
  generalize meanK (xIn m c) (gtIn m c) = v
  pointwise

end Cert.KernelIdeal.Hand
end
-- ==== Proof.RefTrend.lean ====
/- The reference's moving average: a difference of two entries of the padded series' running sum, over 25. -/
module

public import proofs.«01_k».proof.Proof.Gen.ReferenceIdeal.Run
public import proofs.«01_k».proof.Proof.Spec
public import Idealize.ShloMosaic.Lib.Pointwise
public import Idealize.ShloMosaic.Lib.IdealHost

@[expose] public section
set_option maxRecDepth 16384
noncomputable section
namespace Cert.ReferenceIdeal.Hand
open Idealize.ShloMosaic Idealize.ShloMosaic.TcCoe
open Cert.ReferenceIdeal.Gen
open Cert.Proof (clampRow winSum inv25 trendOf seasonOf IsReal)

/-- Column `l` of batch `b` of the series. -/
abbrev line (x : Vec Ideal S4x2048x256 .f32) (b : Fin 4) (l : Fin 256) : Fin 2048 → EReal := fun k => x (ix3 b k l)

/-- The padded series, as the reference writes it. -/
abbrev padR (x : FVec Ideal S4x2048x256 .f32) : FVec Ideal S4x2072x256 .f32 :=
  concatenate S4x2072x256 1 [⟨S4x12x256, shapeCast S4x12x256 (broadcastInDim S4x1x12x256 ![0, 1, 3] bcast_S4x1x256_S4x1x12x256_0_1_3
      (extractStridedSlice S4x1x256 ![0, 0, 0] x slices_S4x2048x256_S4x1x256_0_0_0)) shapeCasts_S4x1x12x256_S4x12x256⟩,
    ⟨S4x2048x256, x⟩,
    ⟨S4x12x256, shapeCast S4x12x256 (broadcastInDim S4x1x12x256 ![0, 1, 3] bcast_S4x1x256_S4x1x12x256_0_1_3
      (extractStridedSlice S4x1x256 ![0, 2047, 0] x slices_S4x2048x256_S4x1x256_0_2047_0)) shapeCasts_S4x1x12x256_S4x12x256⟩]
    concatenates_S4x12x256_S4x2048x256_S4x12x256_S4x2072x256_d1

/-- Row `r` of the padded series is the series' row that `clampRow` names. -/
theorem pad_read (x : FVec Ideal S4x2048x256 .f32) (b : Fin 4) (r : Fin 2072) (l : Fin 256) :
    padR x (ix3 b r l) = line x b l (clampRow r) := by
  pointwise [padR]
  split
  · exact congrArg (fun k => x (ix3 b k l)) (Fin.ext (by simp only [clampRow, Fin.val_zero]; omega))
  · split
    · exact congrArg (fun k => x (ix3 b k l)) (Fin.ext (by simp only [clampRow]; omega))
    · exact congrArg (fun k => x (ix3 b k l)) (Fin.ext (by
        have h : ((2047 : Fin 2048) : ℕ) = 2047 := rfl
        simp only [clampRow, h]; omega))

/-- The running sum along the steps. -/
abbrev cumR (v : FVec Ideal S4x2072x256 .f32) : FVec Ideal S4x2072x256 .f32 :=
  Host.reduceWindowAdd ![1, 2072, 1] ![1, 1, 1] ![0, 2071, 0] ![0, 0, 0] v (broadcastInDim S_ ![] bcast_S_S_ (constant S_ .f32 0x00000000#32))
    reduceWindows_S4x2072x256_S4x2072x256_w1s1p0_0_w2072s1p2071_0_w1s1p0_0 h_S_

/-- A window's positions, one per step. -/
abbrev SW : Shape := ⟨3, ![1, 2072, 1]⟩

/-- What a window of the running sum at step `r` sees at its position `w`: nothing, or step `w - (2071 - r)`. -/
abbrev seen (f : ℕ → EReal) (r w : ℕ) : EReal := if 2071 ≤ r + w then f (r + w - 2071) else 0

/-- The whole window sees the steps up to `r`. -/
theorem sum_seen (f : ℕ → EReal) (r : ℕ) (hr : r < 2072) : ∑ w ∈ Finset.range 2072, seen f r w = ∑ k ∈ Finset.range (r + 1), f k := by
  rw [show 2072 = (2071 - r) + (r + 1) by omega, Finset.sum_range_add, Finset.sum_eq_zero (fun w hw => ?_), zero_add]
  · refine Finset.sum_congr rfl fun k _ => ?_
    rw [seen, if_pos (by omega)]
    exact congrArg f (by omega)
  · rw [seen, if_neg (by have := Finset.mem_range.1 hw; omega)]

/-- A fold that adds is the sum. -/
theorem foldl_add {n : ℕ} (g : Fin n → EReal) (z : EReal) : (List.finRange n).foldl (fun r k => r + g k) z = z + ∑ k, g k := by
  have h : ∀ (a : List (Fin n)) (z : EReal), a.foldl (fun r k => r + g k) z = z + (a.map g).sum := fun a => by
    induction a with
    | nil => intro z; exact (add_zero z).symm
    | cons k a ih => intro z; rw [List.foldl_cons, ih, List.map_cons, List.sum_cons, add_assoc]
  rw [h, Fin.sum_univ_def]

/-- A window's sum: the initial value, and for each of the window's positions an entry, or the initial value again. -/
theorem window_add {s t u : Shape} (window strides lo hi : Fin s.rank → ℕ) (x : FVec Ideal s .f32) (init : FVec Ideal u .f32)
    (h : s.ReduceWindows window strides lo hi t) (hu : 0 < u.numel) (j : t.Idx) (z : EReal) (hz : init (Shape.Idx.first hu) = z) :
    ∃ g : Fin (⟨s.rank, window⟩ : Shape).numel → EReal, Host.reduceWindowAdd window strides lo hi x init h hu j = z + ∑ n, g n
      ∧ ∀ n, (∀ i : s.Idx, (∀ a, (i a).val + lo a = (j (a.cast h.1.symm)).val * strides a + ((⟨s.rank, window⟩ : Shape).rowMajor.symm n a).val) → g n = x i)
        ∧ ((¬ ∀ a, lo a ≤ (j (a.cast h.1.symm)).val * strides a + ((⟨s.rank, window⟩ : Shape).rowMajor.symm n a).val) → g n = z) := by
  subst hz
  show ∃ g : Fin (⟨s.rank, window⟩ : Shape).numel → EReal, Ideal.hostReduceWindowAdd window strides lo hi h x (init (Shape.Idx.first hu)) j = _ ∧ _
  unfold Ideal.hostReduceWindowAdd Host.reduceWindow
  refine ⟨_, foldl_add _ _, fun n => ⟨fun i hi => ?_, fun hn => dif_neg fun hin => hn fun a => (hin a).1⟩⟩
  have hc : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a := fun a => by
    have := hi a
    have := (i a).isLt
    constructor <;> omega
  refine (dif_pos hc).trans (congrArg x (funext fun a => Fin.ext ?_))
  have := hi a
  show (j (a.cast h.1.symm)).val * strides a + ((⟨s.rank, window⟩ : Shape).rowMajor.symm n a).val - lo a = (i a).val
  omega

/-- The window's positions are its steps. -/
theorem positions : SW.numel = 2072 := by decide
/-- Position `w` is step `w`. -/
theorem position (w : Fin 2072) : SW.rowMajor.symm (w.cast positions.symm) = ix3 0 w 0 := by
  rw [Equiv.symm_apply_eq]
  refine Fin.ext ?_
  rw [Shape.rowMajor_val_three]
  show w.val = (0 * 2072 + w.val) * 1 + 0
  omega

/-- Step `r` of the running sum is the sum of the steps up to `r`. -/
theorem cum_read (v : FVec Ideal S4x2072x256 .f32) (f : ℕ → EReal) (b : Fin 4) (r : Fin 2072) (l : Fin 256)
    (hv : ∀ k : Fin 2072, v (ix3 b k l) = f k) : cumR v (ix3 b r l) = ∑ k ∈ Finset.range (r.val + 1), f k := by
  have hr := r.isLt
  have z : (broadcastInDim S_ ![] bcast_S_S_ (constant (F := Ideal) S_ .f32 0x00000000#32) : FVec Ideal S_ .f32) (Shape.Idx.first h_S_) = (0 : EReal) := by
    show Ideal.ofBits .f32 0x00000000#32 = 0
    simp [Ideal.ofBits, Ideal.ieee]
  obtain ⟨g, hg, hn⟩ := window_add (s := S4x2072x256) ![1, 2072, 1] ![1, 1, 1] ![0, 2071, 0] ![0, 0, 0] v
    (broadcastInDim S_ ![] bcast_S_S_ (constant S_ .f32 0x00000000#32)) reduceWindows_S4x2072x256_S4x2072x256_w1s1p0_0_w2072s1p2071_0_w1s1p0_0 h_S_ (ix3 b r l) 0 z
  refine hg.trans ?_
  rw [zero_add, ← sum_seen f r hr, ← Fin.sum_univ_eq_sum_range (fun w => seen f r w), ← (finCongr positions.symm).sum_comp g]
  refine Finset.sum_congr rfl fun w _ => ?_
  have hw := w.isLt
  obtain ⟨h1, h2⟩ := hn (w.cast positions.symm)
  have hp := position w
  by_cases hs : 2071 ≤ r.val + w.val
  · rw [seen, if_pos hs, ← hv ⟨r.val + w.val - 2071, by omega⟩]
    refine h1 _ fun a => ?_
    rw [show (⟨S4x2072x256.rank, ![1, 2072, 1]⟩ : Shape).rowMajor.symm (w.cast positions.symm) = (ix3 0 w 0 : SW.Idx) from hp]
    fin_cases a
    · show b.val + 0 = b.val * 1 + 0; omega
    · show r.val + w.val - 2071 + 2071 = r.val * 1 + w.val; omega
    · show l.val + 0 = l.val * 1 + 0; omega
  · rw [seen, if_neg hs]
    refine h2 fun hin => hs ?_
    rw [show (⟨S4x2072x256.rank, ![1, 2072, 1]⟩ : Shape).rowMajor.symm (w.cast positions.symm) = (ix3 0 w 0 : SW.Idx) from hp] at hin
    have h3 : 2071 ≤ r.val * 1 + w.val := hin 1
    omega

/-- The running sum after a first zero. -/
abbrev sumsR (x : FVec Ideal S4x2048x256 .f32) : FVec Ideal S4x2073x256 .f32 :=
  concatenate S4x2073x256 1 [⟨S4x1x256, broadcastInDim S4x1x256 ![] bcast_S_S4x1x256 (constant S_ .f32 0x00000000#32)⟩,
    ⟨S4x2072x256, cumR (padR x)⟩] concatenates_S4x1x256_S4x2072x256_S4x2073x256_d1

/-- Its entry `r` is the sum of the first `r` steps of the padded series. -/
theorem sums_read (x : FVec Ideal S4x2048x256 .f32) (b : Fin 4) (r : Fin 2073) (l : Fin 256) :
    sumsR x (ix3 b r l) = ∑ k ∈ Finset.range r.val, line x b l (clampRow k) := by
  have h := fun r => cum_read (padR x) (fun k => line x b l (clampRow k)) b r l (fun k => pad_read x b k l)
  unfold sumsR
  generalize cumR (padR x) = u at h ⊢
  pointwise
  split
  · next h0 => rw [show r.val = 0 by omega]; rfl
  · next h0 => rw [h]; show ∑ k ∈ Finset.range (r.val - 1 + 1), _ = _; rw [show r.val - 1 + 1 = r.val by omega]

/-- Twenty-five. -/
theorem word_25 : Ideal.ofBits .f32 0x41C80000#32 = ((25 : ℝ) : EReal) := by
  simp [Ideal.ofBits, Ideal.ieee, -EReal.coe_mul]; norm_num

/-- The moving average, as the reference writes it. -/
abbrev movR (x : FVec Ideal S4x2048x256 .f32) : FVec Ideal S4x2048x256 .f32 :=
  Host.divf (subf (extractStridedSlice S4x2048x256 ![0, 25, 0] (sumsR x) slices_S4x2073x256_S4x2048x256_0_25_0)
    (extractStridedSlice S4x2048x256 ![0, 0, 0] (sumsR x) slices_S4x2073x256_S4x2048x256_0_0_0))
    (broadcastInDim S4x2048x256 ![] bcast_S_S4x2048x256 (constant S_ .f32 0x41C80000#32))

/-- On a finite series it is the average of the window. -/
theorem mov_read (x : FVec Ideal S4x2048x256 .f32) (hx : ∀ i, IsReal (x i)) (b : Fin 4) (r : Fin 2048) (l : Fin 256) :
    movR x (ix3 b r l) = trendOf (line x b l) r := by
  have h := fun r => sums_read x b r l
  unfold movR
  generalize sumsR x = u at h ⊢
  pointwise
  rw [word_25, Ideal.div_coe (by norm_num), trendOf, inv25, one_div, h, h]
  congr 1
  show ∑ k ∈ Finset.range (25 + r.val), line x b l (clampRow k) - ∑ k ∈ Finset.range r.val, line x b l (clampRow k) = _
  obtain ⟨s, hs⟩ := IsReal.sum (Finset.range r.val) (f := fun k => line x b l (clampRow k)) fun k => hx _
  rw [Nat.add_comm, Finset.sum_range_add, hs, add_comm, EReal.add_sub_cancel_right]
  rfl

/-- The residual and the moving average, turned on their side. -/
abbrev seasonR (x : FVec Ideal S4x2048x256 .f32) : FVec Ideal S4x256x2048 .f32 :=
  transpose S4x256x2048 [0, 2, 1] (subf x (movR x)) transposes_S4x2048x256_S4x256x2048_0_2_1
/-- The moving average, turned on its side. -/
abbrev trendR (x : FVec Ideal S4x2048x256 .f32) : FVec Ideal S4x256x2048 .f32 :=
  transpose S4x256x2048 [0, 2, 1] (movR x) transposes_S4x2048x256_S4x256x2048_0_2_1

/-- They are the two decompositions. -/
theorem season_read (x : FVec Ideal S4x2048x256 .f32) (hx : ∀ i, IsReal (x i)) (b : Fin 4) (l : Fin 256) (r : Fin 2048) :
    seasonR x (ix3 b l r) = seasonOf (line x b l) r := by
  have h := mov_read x hx b r l
  rw [seasonOf, ← h]
  unfold seasonR
  generalize movR x = u
  pointwise
/-- The same of the trend. -/
theorem trend_read (x : FVec Ideal S4x2048x256 .f32) (hx : ∀ i, IsReal (x i)) (b : Fin 4) (l : Fin 256) (r : Fin 2048) :
    trendR x (ix3 b l r) = trendOf (line x b l) r := by
  rw [← mov_read x hx b r l]
  unfold trendR
  generalize movR x = u
  pointwise

end Cert.ReferenceIdeal.Hand
end
-- ==== Proof.TopTwo.lean ====
/- The reference's two best experts: a stable sort by "greater" with equal entries kept in order is a sort by value and
   then by position, so its first two entries are the first greatest and the first greatest among the others. -/
module

public import proofs.«01_k».proof.Proof.Spec
public import Idealize.ShloMosaic.Lib.SortPrefix

@[expose] public section

noncomputable section

namespace Cert.Proof

open Idealize.ShloMosaic

/-- A stable sort of an increasing list may look at the positions where its comparison does not decide. -/
theorem stableSort_position {n : ℕ} (R R' : Fin n → Fin n → Bool) (h : ∀ a b : Fin n, a < b → R b a = R' b a) :
    ∀ l : List (Fin n), l.Pairwise (· < ·) → stableSort R l = stableSort R' l
  | [], _ => rfl
  | a :: l, hl => by
    rw [List.pairwise_cons] at hl
    unfold stableSort
    rw [stableSort_position R R' h l hl.2]
    exact insertBefore_congr R R' a _ fun b hb => h a b (hl.1 b ((perm_stableSort R' l).mem_iff.1 hb))

/-- The same of the sort of all positions. -/
theorem sortedFrom_position {n : ℕ} (R R' : Fin n → Fin n → Bool) (h : ∀ a b : Fin n, a < b → R b a = R' b a) :
    sortedFrom R = sortedFrom R' := by
  have e : sortPositions n R = sortPositions n R' := stableSort_position R R' h _ (List.pairwise_lt_finRange n)
  funext k
  unfold sortedFrom
  rw [List.get_of_eq e]
  rfl

/-- The first two positions of the stable sort by "greater". -/
theorem sortedFrom_topTwo (p : Fin 8 → EReal) (i : Fin 2) :
    sortedFrom (fun k k' => decide (p k' < p k)) (i.castLE (by decide)) = ![best p, second p] i := by
  have ht := topTwo p
  rw [sortedFrom_position (fun k k' => decide (p k' < p k))
    (fun k k' => decide (p k' < p k) || (decide (p k = p k') && decide (k < k'))) (fun a b hab => by
      have : ¬ b < a := hab.not_gt
      simp [this])]
  have hB := StrictTotalBefore.of_key_then_position (fun x y : EReal => decide (y < x)) p (by simp)
    (fun a b c hab hbc => by simp only [decide_eq_true_eq] at *; exact hbc.trans hab)
    (fun a b => by simp only [decide_eq_true_eq]; rcases lt_trichotomy a b with h | h | h <;> simp [h])
  refine hB.sortedFrom_eq_of_prefix (by decide) ![best p, second p] ?_ ?_ ?_ i
  · intro i j hij
    fin_cases i <;> fin_cases j <;> first | rfl | exact absurd hij ht.ne.symm | exact absurd hij ht.ne
  · intro i j hij
    fin_cases i <;> fin_cases j <;> first | exact absurd hij (by decide) | skip
    show (decide (p (best p) < p (second p)) || (decide (p (second p) = p (best p)) && decide (second p < best p))) = false
    have h1 := ht.le (second p)
    have h2 := ht.first (second p)
    simp only [Bool.or_eq_false_iff, Bool.and_eq_false_iff, decide_eq_false_iff_not, not_lt]
    refine ⟨h1, ?_⟩
    by_cases e : p (second p) = p (best p)
    · exact Or.inr (h2 e)
    · exact Or.inl e
  · intro i q hq
    have hqa : q ≠ best p := fun e => hq 0 e.symm
    have hqb : q ≠ second p := fun e => hq 1 e.symm
    fin_cases i
    · show (decide (p (best p) < p q) || (decide (p q = p (best p)) && decide (q < best p))) = false
      simp only [Bool.or_eq_false_iff, Bool.and_eq_false_iff, decide_eq_false_iff_not, not_lt]
      refine ⟨ht.le q, ?_⟩
      by_cases e : p q = p (best p)
      · exact Or.inr (ht.first q e)
      · exact Or.inl e
    · show (decide (p (second p) < p q) || (decide (p q = p (second p)) && decide (q < second p))) = false
      simp only [Bool.or_eq_false_iff, Bool.and_eq_false_iff, decide_eq_false_iff_not, not_lt]
      refine ⟨ht.le' q hqa, ?_⟩
      by_cases e : p q = p (second p)
      · exact Or.inr (ht.first' q hqa e)
      · exact Or.inl e

end Cert.Proof

end
-- ==== Proof.RefGate.lean ====
/- The reference's gates: the scores, the probabilities, the two best experts and their weights. -/
module

public import proofs.«01_k».proof.Proof.RefTrend
public import proofs.«01_k».proof.Proof.TopTwo

@[expose] public section
set_option maxRecDepth 16384
noncomputable section
namespace Cert.ReferenceIdeal.Hand
open Idealize.ShloMosaic Idealize.ShloMosaic.TcCoe
open Cert.ReferenceIdeal.Gen
open Cert.Proof (word_bot row_word score prob top gate best second topTwo)

/-- The scores of a decomposition `a`, one per expert. -/
abbrev scoresR (a : FVec Ideal S4x256x2048 .f32) (g : FVec Ideal S8x2048 .f32) : FVec Ideal S4x256x8 .f32 :=
  Host.dotGeneral dot_S4x256x2048_S2048x8_S4x256x8_2_0_01_1_n_n none a (transpose S2048x8 [1, 0] g transposes_S8x2048_S2048x8_1_0)
/-- They are the products of the gate's rows with the decomposition. -/
theorem scores_read (a : FVec Ideal S4x256x2048 .f32) (g : FVec Ideal S8x2048 .f32) (b : Fin 4) (l : Fin 256) (e : Fin 8) :
    scoresR a g (ix3 b l e) = score (fun k => g (ix2 e k)) (fun k => a (ix3 b l k)) := by
  pointwise [scoresR]
  exact Finset.sum_congr (M := EReal) rfl fun k _ => mul_comm (G := EReal) _ _

/-- The exponentials of a table of scores less their greatest, as the reference writes them. -/
abbrev expo (z : FVec Ideal S4x256x8 .f32) : FVec Ideal S4x256x8 .f32 :=
  Host.exp (subf z (broadcastInDim S4x256x8 ![0, 1, 2] bcast_S4x256x1_S4x256x8_0_1_2 (broadcastInDim S4x256x1 ![0, 1] bcast_S4x256_S4x256x1_0_1 (maximumf (broadcastInDim S4x256 ![] bcast_S_S4x256 (constant S_ .f32 0xFF800000#32)) (Host.reduce FloatOps.maximumf z (constant S_ .f32 0xFF800000#32) reducesTo_S4x256x8_S4x256_d2 h_S_ : FVec Ideal S4x256 .f32)))))
/-- What they are. -/
theorem expo_read (z : FVec Ideal S4x256x8 .f32) (b : Fin 4) (l : Fin 256) (e : Fin 8) :
    expo z (ix3 b l e) = Ideal.exp (z (ix3 b l e) - top (fun e => z (ix3 b l e))) := by
  pointwise [expo]
  rw [word_bot, max_bot_left]
  rfl

/-- The softmax of a table of scores, as the reference writes it. -/
abbrev softR (z : FVec Ideal S4x256x8 .f32) : FVec Ideal S4x256x8 .f32 :=
  Host.divf (expo z) (broadcastInDim S4x256x8 ![0, 1, 2] bcast_S4x256x1_S4x256x8_0_1_2 (broadcastInDim S4x256x1 ![0, 1] bcast_S4x256_S4x256x1_0_1
    (Host.reduceAdd (expo z) (constant S_ .f32 0x00000000#32) reducesTo_S4x256x8_S4x256_d2 h_S_)))
/-- It is the probabilities of each row. -/
theorem soft_read (z : FVec Ideal S4x256x8 .f32) (b : Fin 4) (l : Fin 256) (e : Fin 8) :
    softR z (ix3 b l e) = prob (fun e' => z (ix3 b l e')) e := by
  have h := expo_read z b l
  unfold softR
  generalize expo z = u at h ⊢
  pointwise
  simp only [h]
  rfl

/-- The probabilities of a gate `g` on a decomposition `a`. -/
abbrev probsR (a : FVec Ideal S4x256x2048 .f32) (g : FVec Ideal S8x2048 .f32) : FVec Ideal S4x256x8 .f32 := softR (scoresR a g)
/-- What they are. -/
theorem probs_read (a : FVec Ideal S4x256x2048 .f32) (g : FVec Ideal S8x2048 .f32) (b : Fin 4) (l : Fin 256) (e : Fin 8) :
    probsR a g (ix3 b l e) = prob (fun e' => score (fun k => g (ix2 e' k)) (fun k => a (ix3 b l k))) e :=
  (soft_read _ b l e).trans (congrArg (prob · e) (funext fun e' => scores_read a g b l e'))

/-- The first two entries of each row of experts. -/
theorem slice_read {α : Type} (x : S4x256x8.Idx → α) (h : S4x256x8.Slices (fun _ => 0) S4x256x2) (b : Fin 4) (l : Fin 256) (i : Fin 2) :
    extractStridedSlice S4x256x2 (fun _ => 0) x h (ix3 b l i) = x (ix3 b l (i.castLE (by decide : 2 ≤ 8))) := by
  refine congrArg x (funext fun a => ?_)
  fin_cases a <;> exact Fin.ext (Nat.zero_add _)

/-- The two results of a sort of two tables along the experts. -/
theorem sort_fst {α β : Type} (cmp : α × β → α × β → BitVec 1) (x : S4x256x8.Idx → α) (y : S4x256x8.Idx → β) (j : S4x256x8.Idx) :
    (Host.sort2 S4x256x8 2 cmp x y).1 j
      = x (j.along 2 (sortedFrom (fun k k' => cmp (x (j.along 2 k), y (j.along 2 k)) (x (j.along 2 k'), y (j.along 2 k')) == 1#1) (j 2))) := rfl
/-- The second of them. -/
theorem sort_snd {α β : Type} (cmp : α × β → α × β → BitVec 1) (x : S4x256x8.Idx → α) (y : S4x256x8.Idx → β) (j : S4x256x8.Idx) :
    (Host.sort2 S4x256x8 2 cmp x y).2 j
      = y (j.along 2 (sortedFrom (fun k k' => cmp (x (j.along 2 k), y (j.along 2 k)) (x (j.along 2 k'), y (j.along 2 k')) == 1#1) (j 2))) := rfl

/-- The experts' numbers. -/
abbrev numbers : IVec S4x256x8 32 := fun i => if hd : 2 < S4x256x8.rank then iotaInDim S4x256x8 32 ⟨2, hd⟩ i else 0#32

/-- The two best experts of a table of probabilities. -/
theorem pick_read (p : FVec Ideal S4x256x8 .f32) (b : Fin 4) (l : Fin 256) (i : Fin 2) :
    (Host.topK S4x256x2 2 (FloatOps.cmpfTotal (F := Ideal) (φ := .f32) .gt) p sliceFits_S4x256x8_S4x256x2).1 (ix3 b l i)
      = p (ix3 b l (![best (fun e => p (ix3 b l e)), second (fun e => p (ix3 b l e))] i))
    ∧ (Host.topK S4x256x2 2 (FloatOps.cmpfTotal (F := Ideal) (φ := .f32) .gt) p sliceFits_S4x256x8_S4x256x2).2 (ix3 b l i)
      = BitVec.ofNat 32 (![best (fun e => p (ix3 b l e)), second (fun e => p (ix3 b l e))] i).val := by
  have hs := Cert.Proof.sortedFrom_topTwo (fun e => p (ix3 b l e)) i
  have hj : ∀ k : Fin 8, (ix3 b l (i.castLE (by decide : 2 ≤ 8)) : S4x256x8.Idx).along 2 k = ix3 b l k := fun k => by
    funext a; fin_cases a <;> rfl
  have hc : ∀ x y : EReal, (FloatOps.cmpfTotal (F := Ideal) (φ := .f32) .gt x y == 1#1) = decide (y < x) := fun x y => by
    show (BitVec.ofBool (decide (y < x)) == 1#1) = _
    cases decide (y < x) <;> rfl
  have hB : (fun k k' : Fin 8 => FloatOps.cmpfTotal (F := Ideal) (φ := .f32) .gt
      (p ((ix3 b l (i.castLE (by decide : 2 ≤ 8)) : S4x256x8.Idx).along 2 k)) (p ((ix3 b l (i.castLE (by decide : 2 ≤ 8)) : S4x256x8.Idx).along 2 k')) == 1#1)
      = fun k k' => decide (p (ix3 b l k') < p (ix3 b l k)) := by
    funext k k'
    rw [hj, hj]
    exact hc _ _
  have hi : (ix3 b l (i.castLE (by decide : 2 ≤ 8)) : S4x256x8.Idx).along 2 (sortedFrom (fun k k' : Fin 8 => FloatOps.cmpfTotal (F := Ideal) (φ := .f32) .gt
      (p ((ix3 b l (i.castLE (by decide : 2 ≤ 8)) : S4x256x8.Idx).along 2 k)) (p ((ix3 b l (i.castLE (by decide : 2 ≤ 8)) : S4x256x8.Idx).along 2 k')) == 1#1)
      (i.castLE (by decide : 2 ≤ 8))) = ix3 b l (![best (fun e => p (ix3 b l e)), second (fun e => p (ix3 b l e))] i) := by
    exact (congrArg (fun k : Fin 8 => (ix3 b l (i.castLE (by decide : 2 ≤ 8)) : S4x256x8.Idx).along 2 k)
      ((congrFun (congrArg sortedFrom hB) _).trans hs)).trans (hj _)
  exact ⟨(slice_read (Host.sort2 S4x256x8 2 (fun l r : Ideal .f32 × BitVec 32 => FloatOps.cmpfTotal (F := Ideal) (φ := .f32) .gt l.1 r.1) p numbers).1 sliceFits_S4x256x8_S4x256x2 b l i).trans
      ((sort_fst _ p numbers _).trans (congrArg p hi)),
    (slice_read (Host.sort2 S4x256x8 2 (fun l r : Ideal .f32 × BitVec 32 => FloatOps.cmpfTotal (F := Ideal) (φ := .f32) .gt l.1 r.1) p numbers).2 sliceFits_S4x256x8_S4x256x2 b l i).trans
      ((sort_snd _ p numbers _).trans (congrArg (fun j : S4x256x8.Idx => BitVec.ofNat 32 (j 2).val) hi))⟩

/-- Where the entries of the second-best table are one: the reference's weights of all experts. -/
theorem weight_sum (p : Fin 8 → EReal) (e : Fin 8) :
    ∑ i : Fin 2, p (![best p, second p] i) * (if ![best p, second p] i = e then (1 : EReal) else 0) = gate p e := by
  have ht := topTwo p
  rw [Fin.sum_univ_two]
  show p (best p) * (if best p = e then (1 : EReal) else 0) + p (second p) * (if second p = e then (1 : EReal) else 0) = _
  unfold gate
  by_cases h1 : best p = e
  · subst h1; simp [ht.ne]
  · by_cases h2 : second p = e
    · subst h2; simp [h1]
    · simp [h1, h2, eq_comm (a := e)]

/-- The reference's weights, as it writes them: the two best probabilities spread over the experts. -/
abbrev spread (p : FVec Ideal S4x256x8 .f32) : FVec Ideal S4x256x8 .f32 :=
  Host.reduceAdd (mulf (broadcastInDim S4x256x2x8 ![0, 1, 2, 3] bcast_S4x256x2x1_S4x256x2x8_0_1_2_3 (broadcastInDim S4x256x2x1 ![0, 1, 2] bcast_S4x256x2_S4x256x2x1_0_1_2 ((Host.topK S4x256x2 2 (FloatOps.cmpfTotal .gt) p sliceFits_S4x256x8_S4x256x2).1))) (uitofp .f32 (cmpi .eq (broadcastInDim S4x256x2x8 ![0, 1, 2, 3] bcast_S4x256x2x1_S4x256x2x8_0_1_2_3 (broadcastInDim S4x256x2x1 ![0, 1, 2] bcast_S4x256x2_S4x256x2x1_0_1_2 ((Host.topK S4x256x2 2 (FloatOps.cmpfTotal .gt) p sliceFits_S4x256x8_S4x256x2).2))) (broadcastInDim S4x256x2x8 ![0, 1, 2, 3] bcast_S1x1x1x8_S4x256x2x8_0_1_2_3 (iotaInDim S1x1x1x8 32 3))))) (constant S_ .f32 0x00000000#32) reducesTo_S4x256x2x8_S4x256x8_d2 h_S_
/-- They are the gate's weights. -/
theorem spread_read (p : FVec Ideal S4x256x8 .f32) (b : Fin 4) (l : Fin 256) (e : Fin 8) :
    spread p (ix3 b l e) = gate (fun e => p (ix3 b l e)) e := by
  have h1 := fun i => (pick_read p b l i).1
  have h2 := fun i => (pick_read p b l i).2
  rw [← weight_sum]
  pointwise [spread]
  refine Finset.sum_congr rfl fun i _ => ?_
  rw [h1, h2, row_word]
  congr 1
  split <;> simp [FloatOps.uitofp]

end Cert.ReferenceIdeal.Hand
end
-- ==== Proof.RefOut.lean ====
/- What the reference returns: the weighted sum of the experts of both decompositions, and the trend gate's mean
   probabilities over the batches. -/
module

public import proofs.«01_k».proof.Proof.RefGate

@[expose] public section
set_option maxRecDepth 16384
noncomputable section
namespace Cert.ReferenceIdeal.Hand
open Idealize.ShloMosaic Idealize.ShloMosaic.TcCoe Idealize.SL.Sem
open Cert.ReferenceIdeal.Gen Cert.ReferenceIdeal.Value
open Cert.Proof (trendOf seasonOf score prob gate share IsReal)

/-- The weighted sum of the experts on one decomposition `a`, as the reference writes it. -/
abbrev mixed (p : FVec Ideal S4x256x8 .f32) (a : FVec Ideal S4x256x2048 .f32) (w : FVec Ideal S8x1024x2048 .f32) (bb : FVec Ideal S8x1024 .f32) :
    FVec Ideal S4x256x1024 .f32 :=
  Host.dotGeneral dot_S4x256x8_S4x256x8x1024_S4x256x1024_2_2_n_3_01_01 none (spread p)
    (addf (Host.dotGeneral dot_S4x256x2048_S8x1024x2048_S4x256x8x1024_2_2_01_01_n_n none a w)
      (broadcastInDim S4x256x8x1024 ![0, 1, 2, 3] bcast_S1x1x8x1024_S4x256x8x1024_0_1_2_3 (broadcastInDim S1x1x8x1024 ![2, 3] bcast_S8x1024_S1x1x8x1024_2_3 bb)))
/-- It is the sum of the shares. -/
theorem mixed_read (p : FVec Ideal S4x256x8 .f32) (a : FVec Ideal S4x256x2048 .f32) (w : FVec Ideal S8x1024x2048 .f32) (bb : FVec Ideal S8x1024 .f32)
    (b : Fin 4) (l : Fin 256) (o : Fin 1024) :
    mixed p a w bb (ix3 b l o) = ∑ e, share (gate (fun e => p (ix3 b l e)) e) (fun k => w (ix3 e o k)) (fun k => a (ix3 b l k)) (bb (ix2 e o)) := by
  have h := spread_read p b l
  unfold mixed
  generalize spread p = s at h ⊢
  pointwise
  simp only [h]
  refine Finset.sum_congr rfl fun e _ => ?_
  unfold share
  congr 2
  exact Finset.sum_congr rfl fun k _ => mul_comm _ _

/-- Four. -/
theorem word_4 : Ideal.ofBits .f32 0x40800000#32 = ((4 : ℝ) : EReal) := by
  simp [Ideal.ofBits, Ideal.ieee, -EReal.coe_mul]; norm_num

variable (x : FVec Ideal S4x2048x256 .f32) (gs : FVec Ideal S8x2048 .f32) (ws : FVec Ideal S8x1024x2048 .f32) (bs : FVec Ideal S8x1024 .f32)
  (gt : FVec Ideal S8x2048 .f32) (wt : FVec Ideal S8x1024x2048 .f32) (bt : FVec Ideal S8x1024 .f32)

/-- The first result. -/
def outR : FVec Ideal S4x1024x256 .f32 :=
  transpose S4x1024x256 [0, 2, 1] (addf (mixed (probsR (seasonR x) gs) (seasonR x) ws bs) (mixed (probsR (trendR x) gt) (trendR x) wt bt))
    transposes_S4x256x1024_S4x1024x256_0_2_1
/-- The second result. -/
def pmR : FVec Ideal S256x8 .f32 :=
  Host.divf (Host.reduceAdd (probsR (trendR x) gt) (constant S_ .f32 0x00000000#32) reducesTo_S4x256x8_S256x8_d0 h_S_)
    (broadcastInDim S256x8 ![] bcast_S_S256x8 (constant S_ .f32 0x40800000#32))

/-- The first result at an output step `o` of batch `b`, column `l`: the sixteen shares. -/
theorem outR_read (hx : ∀ i, IsReal (x i)) (b : Fin 4) (o : Fin 1024) (l : Fin 256) : outR x gs ws bs gt wt bt (ix3 b o l) =
    (∑ e, share (gate (prob (fun e' => score (fun k => gs (ix2 e' k)) (seasonOf (line x b l)))) e)
      (fun k => ws (ix3 e o k)) (seasonOf (line x b l)) (bs (ix2 e o)))
    + ∑ e, share (gate (prob (fun e' => score (fun k => gt (ix2 e' k)) (trendOf (line x b l)))) e)
      (fun k => wt (ix3 e o k)) (trendOf (line x b l)) (bt (ix2 e o)) := by
  have h1 := mixed_read (probsR (seasonR x) gs) (seasonR x) ws bs b l o
  have h2 := mixed_read (probsR (trendR x) gt) (trendR x) wt bt b l o
  simp only [probs_read, season_read x hx] at h1
  simp only [probs_read, trend_read x hx] at h2
  rw [← h1, ← h2]
  unfold outR
  generalize mixed (probsR (seasonR x) gs) (seasonR x) ws bs = u
  generalize mixed (probsR (trendR x) gt) (trendR x) wt bt = v
  pointwise

/-- The second result: the mean of the trend gate's probabilities. -/
theorem pmR_read (hx : ∀ i, IsReal (x i)) (l : Fin 256) (e : Fin 8) : pmR x gt (ix2 l e) =
    ∑ b : Fin 4, prob (fun e' => score (fun k => gt (ix2 e' k)) (trendOf (line x b l))) e * ((4⁻¹ : ℝ) : EReal) := by
  have h := fun b => probs_read (trendR x) gt b l e
  simp only [trend_read x hx] at h
  unfold pmR
  generalize probsR (trendR x) gt = p at h ⊢
  pointwise
  have r : ∀ b : Fin 4, @HMul.hMul EReal EReal EReal _ (p (ix3 b l e)) ((4⁻¹ : ℝ) : EReal)
      = prob (fun e' => score (fun k => gt (ix2 e' k)) (trendOf (line x b l))) e * ((4⁻¹ : ℝ) : EReal) :=
    fun b => congrArg (fun z : EReal => z * ((4⁻¹ : ℝ) : EReal)) (h b)
  rw [word_4, Ideal.div_coe (by norm_num), one_div, ← Finset.sum_congr rfl fun b _ => r b, Fin.sum_univ_four, Fin.sum_univ_four]
  have d := EReal.right_distrib_of_nonneg_of_ne_top (EReal.coe_nonneg.2 (by norm_num : (0 : ℝ) ≤ 4⁻¹)) (EReal.coe_ne_top (4⁻¹ : ℝ))
  exact (d _ _).trans (congrArg (fun z : EReal => z + _) ((d _ _).trans (congrArg (fun z : EReal => z + _) (d _ _))))

section Run
variable (m : (ℓ : Loc nD τ sig) → Buf (Elt Ideal) ℓ) (c : Dev nD)

/-- The arguments. -/
abbrev xR : Vec Ideal S4x2048x256 .f32 := m ((c.tc : Thread nD τ).loc main_arg0)
/-- The seasonal gate. -/
abbrev gsR : Vec Ideal S8x2048 .f32 := m ((c.tc : Thread nD τ).loc main_arg1)
/-- The seasonal experts. -/
abbrev wsR : Vec Ideal S8x1024x2048 .f32 := m ((c.tc : Thread nD τ).loc main_arg2)
/-- Their biases. -/
abbrev bsR : Vec Ideal S8x1024 .f32 := m ((c.tc : Thread nD τ).loc main_arg3)
/-- The trend gate. -/
abbrev gtR : Vec Ideal S8x2048 .f32 := m ((c.tc : Thread nD τ).loc main_arg4)
/-- The trend experts. -/
abbrev wtR : Vec Ideal S8x1024x2048 .f32 := m ((c.tc : Thread nD τ).loc main_arg5)
/-- Their biases. -/
abbrev btR : Vec Ideal S8x1024 .f32 := m ((c.tc : Thread nD τ).loc main_arg6)

/-- The run's first result is `outR` of the arguments. -/
theorem out_run : res_out0 m c = outR (xR m c) (gsR m c) (wsR m c) (bsR m c) (gtR m c) (wtR m c) (btR m c) := rfl
/-- The run's second result is `pmR` of the arguments. -/
theorem pm_run : res_out1 m c = pmR (xR m c) (gtR m c) := rfl
end Run

end Cert.ReferenceIdeal.Hand
end
-- ==== Proof.Finite.lean ====
/- What the precondition gives: every entry of the series and of the two gate matrices is a real number. -/
module

public import proofs.«01_k».proof.Defs
public import proofs.«01_k».proof.Proof.Spec
public import Idealize.ShloMosaic.Lib.ReduceAll

@[expose] public section
noncomputable section
namespace Cert.Proof
open Idealize.ShloMosaic

/-- The shape relations the precondition's operations take. -/
theorem facts_finite : Cert.Pre_finite_gates.Facts := ⟨by decide, by decide, by decide, by decide, by decide⟩

/-- The word of the infinity the precondition compares with. -/
theorem word_top : Ideal.ofBits .f32 0x7F800000#32 = (⊤ : EReal) := by
  simp [Ideal.ofBits, Ideal.ieee]

/-- A bit that is one of two bits' conjunction. -/
theorem and_one (a b : BitVec 1) (h : a &&& b = 1#1) : a = 1#1 ∧ b = 1#1 := by revert a b; decide

/-- A number whose absolute value is below infinity is real. -/
theorem real_of_abs (v : EReal) (h : Ideal.cmp .olt (max v (-v)) (Ideal.ofBits .f32 0x7F800000#32) = 1#1) : IsReal v := by
  rw [word_top] at h
  have hv : max v (-v) < ⊤ := by
    by_contra hn
    simp [Ideal.cmp, hn] at h
  have h1 : v ≠ ⊤ := by rintro rfl; simp at hv
  have h2 : v ≠ ⊥ := by rintro rfl; simp at hv
  exact ⟨v.toReal, (EReal.coe_toReal h1 h2).symm⟩

/-- The precondition's meaning. -/
theorem real_of_finite [Cert.Pre_finite_gates.Facts] (x : FVec Ideal Cert.Pre_finite_gates.S4x2048x256 .f32) (gs : FVec Ideal Cert.Pre_finite_gates.S8x2048 .f32)
    (ws : FVec Ideal Cert.Pre_finite_gates.S8x1024x2048 .f32) (bs : FVec Ideal Cert.Pre_finite_gates.S8x1024 .f32) (gt : FVec Ideal Cert.Pre_finite_gates.S8x2048 .f32)
    (wt : FVec Ideal Cert.Pre_finite_gates.S8x1024x2048 .f32) (bt : FVec Ideal Cert.Pre_finite_gates.S8x1024 .f32)
    (h : Cert.Pre_finite_gates.fn (F := Ideal) x gs ws bs gt wt bt = fun _ => 1#1) :
    (∀ i, IsReal (x i)) ∧ (∀ i, IsReal (gs i)) ∧ ∀ i, IsReal (gt i) := by
  have h0 := congrFun h (fun d => d.elim0)
  obtain ⟨h1, hgt⟩ := and_one _ _ h0
  obtain ⟨hx, hgs⟩ := and_one _ _ h1
  exact ⟨fun i => real_of_abs _ (Host.reduce_andi_all _ _ _ _ _ hx i), fun i => real_of_abs _ (Host.reduce_andi_all _ _ _ _ _ hgs i),
    fun i => real_of_abs _ (Host.reduce_andi_all _ _ _ _ _ hgt i)⟩

end Cert.Proof
end
-- ==== Proof.Equation.lean ====
/- The equation: on arguments that agree and satisfy the precondition, the kernel returns what the reference returns. -/
module

public import proofs.«01_k».proof.Proof.KernelOut
public import proofs.«01_k».proof.Proof.RefOut
public import proofs.«01_k».proof.Proof.Finite

@[expose] public section
noncomputable section
namespace Cert.Proof
open Idealize.ShloMosaic Idealize.ShloMosaic.TcCoe
open Cert.KernelIdeal.Hand (outK pmK outK_read pmK_read xA gsA wsA bsA gtA wtA btA)
open Cert.ReferenceIdeal.Hand (outR pmR outR_read pmR_read)

variable (m : (ℓ : Loc Cert.KernelIdeal.nD Cert.KernelIdeal.τ Cert.KernelIdeal.sig) → Buf (Elt Ideal) ℓ) (c : Dev Cert.KernelIdeal.nD)

/-- The first result is the same. -/
theorem out_eq (hx : ∀ i, IsReal (xA m c i)) (hs : ∀ i, IsReal (gsA m c i)) (hg : ∀ i, IsReal (gtA m c i)) :
    outR (xA m c) (gsA m c) (wsA m c) (bsA m c) (gtA m c) (wtA m c) (btA m c) = outK m c := by
  funext y
  obtain ⟨b, o, l, rfl⟩ : ∃ (b : Fin 4) (o : Fin 1024) (l : Fin 256), y = ix3 b o l := ⟨y 0, y 1, y 2, eq_ix3 y⟩
  exact (outR_read (xA m c) (gsA m c) (wsA m c) (bsA m c) (gtA m c) (wtA m c) (btA m c) hx b o l).trans (outK_read m c hx hs hg b o l).symm

/-- And so is the second. -/
theorem pm_eq (hx : ∀ i, IsReal (xA m c i)) : pmR (xA m c) (gtA m c) = pmK m c := by
  funext y
  obtain ⟨l, e, rfl⟩ : ∃ (l : Fin 256) (e : Fin 8), y = ix2 l e := ⟨y 0, y 1, eq_ix2 y⟩
  exact (pmR_read (xA m c) (gtA m c) hx l e).trans (pmK_read m c l e).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Results
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealized kernel leaves its arguments as they were, every counter zero. -/
theorem frame_ideal : Cert.quiescent_KernelIdeal := fun m g _ =>
  (θ_run _ _ _).mono (fun _ h => ⟨fun c => (h.1 c).2.2, h.2⟩) (Cert.KernelIdeal.Hand.run (F := Ideal) m g)

/-- And so does the reference, which declares no semaphore at all. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- From memories agreeing on the arguments, the series and the gate matrices finite, both return the same. -/
theorem equation : Cert.algebraic_KernelIdeal_ReferenceIdeal_pre_finite_gates (hKernelIdeal := Cert.KernelIdeal.Gen.facts)
    (hReferenceIdeal := Cert.ReferenceIdeal.Gen.facts) (hPre_finite_gates := facts_finite) := fun m g m' g' hpre hm => by
  refine ⟨Cert.KernelIdeal.Hand.outK m, Cert.KernelIdeal.Hand.pmK m,
    (θ_run _ _ _).mono (fun _ h => h.1) (Cert.KernelIdeal.Hand.run (F := Ideal) m g),
    (θ_run Cert.ReferenceIdeal.defs _ _).mono (fun r h c => ?_) (Cert.ReferenceIdeal.Value.run (F := Ideal) m' g')⟩
  obtain ⟨h0, h1, h2, h3, h4, h5, h6⟩ := hm c
  obtain ⟨hx, hs, hg⟩ := @real_of_finite facts_finite _ _ _ _ _ _ _ (hpre c)
  have ho := Cert.ReferenceIdeal.Hand.out_run m' c
  have hp := Cert.ReferenceIdeal.Hand.pm_run m' c
  rw [show Cert.ReferenceIdeal.Hand.xR m' c = Cert.KernelIdeal.Hand.xA m c from h0,
    show Cert.ReferenceIdeal.Hand.gsR m' c = Cert.KernelIdeal.Hand.gsA m c from h1,
    show Cert.ReferenceIdeal.Hand.wsR m' c = Cert.KernelIdeal.Hand.wsA m c from h2,
    show Cert.ReferenceIdeal.Hand.bsR m' c = Cert.KernelIdeal.Hand.bsA m c from h3,
    show Cert.ReferenceIdeal.Hand.gtR m' c = Cert.KernelIdeal.Hand.gtA m c from h4,
    show Cert.ReferenceIdeal.Hand.wtR m' c = Cert.KernelIdeal.Hand.wtA m c from h5,
    show Cert.ReferenceIdeal.Hand.btR m' c = Cert.KernelIdeal.Hand.btA m c from h6] at ho
  rw [show Cert.ReferenceIdeal.Hand.xR m' c = Cert.KernelIdeal.Hand.xA m c from h0,
    show Cert.ReferenceIdeal.Hand.gtR m' c = Cert.KernelIdeal.Hand.gtA m c from h4] at hp
  exact ⟨(h c).1.trans (ho.trans (out_eq m c hx hs hg)), (h c).2.1.trans (hp.trans (pm_eq m c hx)), (h c).2.2⟩

/-- Everything claimed. -/
theorem claim : Cert.Claim := ⟨Cert.Kernel.Gen.facts, Cert.KernelIdeal.Gen.facts, Cert.ReferenceIdeal.Gen.facts, facts_finite,
  frame_kernel, frame_ideal, fun m g _ => frame_ideal m g trivial, frame_reference, fun m g _ => frame_reference m g trivial,
  IdealRules.named_const.statement Cert.KernelIdeal.κ "inv_25" .f32 0x3D23D70A#32 ((25⁻¹ : ℝ) : EReal) rfl, equation⟩

end Cert.Proof

end
